-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_exponents_normal [hPre_exponents_normal : Cert.Pre_exponents_normal.Facts] (m : (ℓ : Loc Cert.KernelIdeal.nD Cert.KernelIdeal.τ Cert.KernelIdeal.sig) → Buf (Elt Ideal) ℓ) : Prop :=
  ∀ c : Dev Cert.KernelIdeal.nD,
    (Cert.Pre_exponents_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exponents_normal [hPre_exponents_normal : Cert.Pre_exponents_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exponents_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_exponents_normal [hKernelIdeal : Cert.KernelIdeal.Facts] [hPre_exponents_normal : Cert.Pre_exponents_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_exponents_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_exponents_normal [hReferenceIdeal : Cert.ReferenceIdeal.Facts] [hPre_exponents_normal : Cert.Pre_exponents_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exponents_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_exponents_normal [hKernelIdeal : Cert.KernelIdeal.Facts] [hReferenceIdeal : Cert.ReferenceIdeal.Facts] [hPre_exponents_normal : Cert.Pre_exponents_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_exponents_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_exponents_normal : Cert.Pre_exponents_normal.Facts),
    quiescent_Kernel (hKernel := hKernel)
    ∧ quiescent_KernelIdeal (hKernelIdeal := hKernelIdeal)
    ∧ quiescent_KernelIdeal_pre_exponents_normal (hKernelIdeal := hKernelIdeal) (hPre_exponents_normal := hPre_exponents_normal)
    ∧ quiescent_ReferenceIdeal (hReferenceIdeal := hReferenceIdeal)
    ∧ quiescent_ReferenceIdeal_pre_exponents_normal (hReferenceIdeal := hReferenceIdeal) (hPre_exponents_normal := hPre_exponents_normal)
    ∧ preserves_Kernel_KernelIdeal
    ∧ algebraic_KernelIdeal_ReferenceIdeal_pre_exponents_normal (hKernelIdeal := hKernelIdeal) (hReferenceIdeal := hReferenceIdeal) (hPre_exponents_normal := hPre_exponents_normal)
-- ==== Pre_exponents_normal.lean ====
abbrev S2x128x1024 : Shape := ⟨3, ![2, 128, 1024]⟩
abbrev S512x24576 : Shape := ⟨2, ![512, 24576]⟩
abbrev S24576 : Shape := ⟨1, ![24576]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2x128x1024 .bf16) (main_arg1 : IVec S512x24576 8) (main_arg2 : FVec F S24576 .f32) (main_arg3 : IVec S1 32) (main_arg4 : IVec S512x24576 8) (main_arg5 : FVec F S24576 .f32) (main_arg6 : IVec S1 32) : IVec S1 1 :=
  let main_c : IVec S_ 32 := constantI S_ 32 4294967171#32
  let main_v0 : IVec S1 32 := broadcastInDim S1 ![] bcast_S_S1 main_c
  let main_v1 : IVec S1 1 := cmpi .sge main_arg3 main_v0
  let main_c_0 : IVec S_ 32 := constantI S_ 32 124#32
  let main_v2 : IVec S1 32 := broadcastInDim S1 ![] bcast_S_S1 main_c_0
  let main_v3 : IVec S1 1 := cmpi .sle main_arg3 main_v2
  let main_v4 : IVec S1 1 := andi main_v1 main_v3
  let main_c_1 : IVec S_ 32 := constantI S_ 32 4294967171#32
  let main_v5 : IVec S1 32 := broadcastInDim S1 ![] bcast_S_S1 main_c_1
  let main_v6 : IVec S1 1 := cmpi .sge main_arg6 main_v5
  let main_v7 : IVec S1 1 := andi main_v4 main_v6
  let main_c_2 : IVec S_ 32 := constantI S_ 32 124#32
  let main_v8 : IVec S1 32 := broadcastInDim S1 ![] bcast_S_S1 main_c_2
  let main_v9 : IVec S1 1 := cmpi .sle main_arg6 main_v8
  let main_v10 : IVec S1 1 := andi main_v7 main_v9
  main_v10
-- ==== Kernel.lean ====
abbrev S2x128x1024 : Shape := ⟨3, ![2, 128, 1024]⟩
abbrev S512x24576 : Shape := ⟨2, ![512, 24576]⟩
abbrev S24576 : Shape := ⟨1, ![24576]⟩
abbrev S1 : Shape := ⟨1, ![1]⟩
abbrev S256x1024 : Shape := ⟨2, ![256, 1024]⟩
abbrev S1x24576 : Shape := ⟨2, ![1, 24576]⟩
abbrev S256x24576 : Shape := ⟨2, ![256, 24576]⟩
abbrev S512x1024 : Shape := ⟨2, ![512, 1024]⟩
abbrev S1x1024 : Shape := ⟨2, ![1, 1024]⟩
abbrev S4x32x128 : Shape := ⟨3, ![4, 32, 128]⟩
abbrev S256x256 : Shape := ⟨2, ![256, 256]⟩
abbrev S32x128 : Shape := ⟨2, ![32, 128]⟩
abbrev S1x32x128 : Shape := ⟨3, ![1, 32, 128]⟩
abbrev S32x128x1 : Shape := ⟨3, ![32, 128, 1]⟩
abbrev S8x128 : Shape := ⟨2, ![8, 128]⟩
abbrev S16x128 : Shape := ⟨2, ![16, 128]⟩
abbrev S1024x128 : Shape := ⟨2, ![1024, 128]⟩
abbrev S1024x256 : Shape := ⟨2, ![1024, 256]⟩
abbrev S1x256 : Shape := ⟨2, ![1, 256]⟩

abbrev nBuf : Space → Nat
  | .hbm => 11
  | .vmem => 13
  | .smem => 2
  | _ => 0

abbrev bufTy : (tb : Table) → Fin (tcTables nBuf tb) → BufTy
  | .hbm, ⟨0, _⟩ => ⟨S2x128x1024, .bf16⟩
  | .hbm, ⟨1, _⟩ => ⟨S512x24576, .i8⟩
  | .hbm, ⟨2, _⟩ => ⟨S24576, .f32⟩
  | .hbm, ⟨3, _⟩ => ⟨S1, .i32⟩
  | .hbm, ⟨4, _⟩ => ⟨S512x24576, .i8⟩
  | .hbm, ⟨5, _⟩ => ⟨S24576, .f32⟩
  | .hbm, ⟨6, _⟩ => ⟨S1, .i32⟩
  | .hbm, ⟨7, _⟩ => ⟨S256x1024, .bf16⟩
  | .hbm, ⟨8, _⟩ => ⟨S1x24576, .f32⟩
  | .hbm, ⟨9, _⟩ => ⟨S1x24576, .f32⟩
  | .hbm, ⟨10, _⟩ => ⟨S256x24576, .bf16⟩
  | .local _ .vmem, ⟨0, _⟩ => ⟨S256x1024, .bf16⟩
  | .local _ .vmem, ⟨1, _⟩ => ⟨S512x1024, .i8⟩
  | .local _ .vmem, ⟨2, _⟩ => ⟨S512x1024, .i8⟩
  | .local _ .vmem, ⟨3, _⟩ => ⟨S1x1024, .f32⟩
  | .local _ .vmem, ⟨4, _⟩ => ⟨S1x1024, .f32⟩
  | .local _ .vmem, ⟨5, _⟩ => ⟨S512x1024, .i8⟩
  | .local _ .vmem, ⟨6, _⟩ => ⟨S512x1024, .i8⟩
  | .local _ .vmem, ⟨7, _⟩ => ⟨S1x1024, .f32⟩
  | .local _ .vmem, ⟨8, _⟩ => ⟨S1x1024, .f32⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S4x32x128, .i8⟩
  | .local _ .smem, ⟨0, _⟩ => ⟨S1, .i32⟩
  | .local _ .smem, ⟨1, _⟩ => ⟨S1, .i32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x128x1024 : Shape := ⟨3, ![2, 128, 1024]⟩
abbrev S512x24576 : Shape := ⟨2, ![512, 24576]⟩
abbrev S24576 : Shape := ⟨1, ![24576]⟩
abbrev S1 : Shape := ⟨1, ![1]⟩
abbrev S2x128x512 : Shape := ⟨3, ![2, 128, 512]⟩
abbrev S_ : Shape := ⟨0, ![]⟩
abbrev S2x128x24576 : Shape := ⟨3, ![2, 128, 24576]⟩
abbrev S1x1x24576 : Shape := ⟨3, ![1, 1, 24576]⟩
abbrev S256x24576 : Shape := ⟨2, ![256, 24576]⟩

abbrev nBuf : Space → Nat
  | .hbm => 273
  | .vmem => 0
  | .smem => 0
  | _ => 0

abbrev hbmTy0_0 (i : Nat) : BufTy := match i % 128 with
  | 0 => ⟨S2x128x1024, .bf16⟩
  | 1 => ⟨S512x24576, .i8⟩
  | 2 => ⟨S24576, .f32⟩
  | 3 => ⟨S1, .i32⟩
  | 4 => ⟨S512x24576, .i8⟩
  | 5 => ⟨S24576, .f32⟩
  | 6 => ⟨S1, .i32⟩
  | 7 => ⟨S2x128x512, .bf16⟩
  | 8 => ⟨S2x128x512, .bf16⟩
  | 9 => ⟨S_, .i32⟩
  | 10 => ⟨S512x24576, .i32⟩
  | 11 => ⟨S_, .i32⟩
  | 12 => ⟨S512x24576, .i32⟩
  | 13 => ⟨S512x24576, .i32⟩
  | 14 => ⟨S_, .i32⟩
  | 15 => ⟨S512x24576, .i32⟩
  | 16 => ⟨S512x24576, .i32⟩
  | 17 => ⟨S_, .i32⟩
  | 18 => ⟨S512x24576, .i32⟩
  | 19 => ⟨S512x24576, .i1⟩
  | 20 => ⟨S_, .i32⟩
  | 21 => ⟨S512x24576, .i32⟩
  | 22 => ⟨S512x24576, .i1⟩
  | 23 => ⟨S_, .i32⟩
  | 24 => ⟨S512x24576, .i32⟩
  | 25 => ⟨S512x24576, .i32⟩
  | 26 => ⟨S_, .i32⟩
  | 27 => ⟨S512x24576, .i32⟩
  | 28 => ⟨S512x24576, .i32⟩
  | 29 => ⟨S_, .i32⟩
  | 30 => ⟨S512x24576, .i32⟩
  | 31 => ⟨S512x24576, .i32⟩
  | 32 => ⟨S_, .i32⟩
  | 33 => ⟨S512x24576, .i32⟩
  | 34 => ⟨S512x24576, .i32⟩
  | 35 => ⟨S_, .i32⟩
  | 36 => ⟨S512x24576, .i32⟩
  | 37 => ⟨S512x24576, .i32⟩
  | 38 => ⟨S_, .i32⟩
  | 39 => ⟨S512x24576, .i32⟩
  | 40 => ⟨S512x24576, .i32⟩
  | 41 => ⟨S512x24576, .f32⟩
  | 42 => ⟨S_, .i32⟩
  | 43 => ⟨S512x24576, .i32⟩
  | 44 => ⟨S512x24576, .i32⟩
  | 45 => ⟨S512x24576, .f32⟩
  | 46 => ⟨S512x24576, .f32⟩
  | 47 => ⟨S_, .f32⟩
  | 48 => ⟨S512x24576, .f32⟩
  | 49 => ⟨S512x24576, .i32⟩
  | 50 => ⟨S512x24576, .i32⟩
  | 51 => ⟨S_, .i32⟩
  | 52 => ⟨S512x24576, .i32⟩
  | 53 => ⟨S512x24576, .i32⟩
  | 54 => ⟨S512x24576, .f32⟩
  | 55 => ⟨S512x24576, .f32⟩
  | 56 => ⟨S512x24576, .f32⟩
  | 57 => ⟨S_, .i32⟩
  | 58 => ⟨S512x24576, .i32⟩
  | 59 => ⟨S512x24576, .i1⟩
  | 60 => ⟨S512x24576, .i32⟩
  | 61 => ⟨S_, .i32⟩
  | 62 => ⟨S512x24576, .i32⟩
  | 63 => ⟨S512x24576, .i32⟩
  | 64 => ⟨S512x24576, .i32⟩
  | 65 => ⟨S512x24576, .i32⟩
  | 66 => ⟨S512x24576, .f32⟩
  | 67 => ⟨S512x24576, .f32⟩
  | 68 => ⟨S_, .f32⟩
  | 69 => ⟨S_, .f32⟩
  | 70 => ⟨S512x24576, .f32⟩
  | 71 => ⟨S512x24576, .f32⟩
  | 72 => ⟨S_, .i32⟩
  | 73 => ⟨S512x24576, .i32⟩
  | 74 => ⟨S512x24576, .i1⟩
  | 75 => ⟨S_, .i32⟩
  | 76 => ⟨S512x24576, .i32⟩
  | 77 => ⟨S512x24576, .i1⟩
  | 78 => ⟨S_, .i32⟩
  | 79 => ⟨S512x24576, .i32⟩
  | 80 => ⟨S512x24576, .i32⟩
  | 81 => ⟨S_, .i32⟩
  | 82 => ⟨S512x24576, .i32⟩
  | 83 => ⟨S512x24576, .i32⟩
  | 84 => ⟨S_, .i32⟩
  | 85 => ⟨S512x24576, .i32⟩
  | 86 => ⟨S512x24576, .i32⟩
  | 87 => ⟨S_, .i32⟩
  | 88 => ⟨S512x24576, .i32⟩
  | 89 => ⟨S512x24576, .i32⟩
  | 90 => ⟨S_, .i32⟩
  | 91 => ⟨S512x24576, .i32⟩
  | 92 => ⟨S512x24576, .i32⟩
  | 93 => ⟨S_, .i32⟩
  | 94 => ⟨S512x24576, .i32⟩
  | 95 => ⟨S512x24576, .i32⟩
  | 96 => ⟨S512x24576, .f32⟩
  | 97 => ⟨S_, .i32⟩
  | 98 => ⟨S512x24576, .i32⟩
  | 99 => ⟨S512x24576, .i32⟩
  | 100 => ⟨S512x24576, .f32⟩
  | 101 => ⟨S512x24576, .f32⟩
  | 102 => ⟨S_, .f32⟩
  | 103 => ⟨S512x24576, .f32⟩
  | 104 => ⟨S512x24576, .i32⟩
  | 105 => ⟨S512x24576, .i32⟩
  | 106 => ⟨S_, .i32⟩
  | 107 => ⟨S512x24576, .i32⟩
  | 108 => ⟨S512x24576, .i32⟩
  | 109 => ⟨S512x24576, .f32⟩
  | 110 => ⟨S512x24576, .f32⟩
  | 111 => ⟨S512x24576, .f32⟩
  | 112 => ⟨S_, .i32⟩
  | 113 => ⟨S512x24576, .i32⟩
  | 114 => ⟨S512x24576, .i1⟩
  | 115 => ⟨S512x24576, .i32⟩
  | 116 => ⟨S_, .i32⟩
  | 117 => ⟨S512x24576, .i32⟩
  | 118 => ⟨S512x24576, .i32⟩
  | 119 => ⟨S512x24576, .i32⟩
  | 120 => ⟨S512x24576, .i32⟩
  | 121 => ⟨S512x24576, .f32⟩
  | 122 => ⟨S512x24576, .f32⟩
  | 123 => ⟨S_, .f32⟩
  | 124 => ⟨S_, .f32⟩
  | 125 => ⟨S512x24576, .f32⟩
  | 126 => ⟨S512x24576, .f32⟩
  | 127 => ⟨S512x24576, .bf16⟩
  | _ => ⟨S2x128x1024, .bf16⟩

abbrev hbmTy0_1 (i : Nat) : BufTy := match i % 128 with
  | 0 => ⟨S512x24576, .bf16⟩
  | 1 => ⟨S2x128x24576, .f32⟩
  | 2 => ⟨S2x128x24576, .f32⟩
  | 3 => ⟨S2x128x24576, .f32⟩
  | 4 => ⟨S1x1x24576, .f32⟩
  | 5 => ⟨S2x128x24576, .f32⟩
  | 6 => ⟨S2x128x24576, .f32⟩
  | 7 => ⟨S_, .i32⟩
  | 8 => ⟨S512x24576, .i32⟩
  | 9 => ⟨S_, .i32⟩
  | 10 => ⟨S512x24576, .i32⟩
  | 11 => ⟨S512x24576, .i32⟩
  | 12 => ⟨S_, .i32⟩
  | 13 => ⟨S512x24576, .i32⟩
  | 14 => ⟨S512x24576, .i32⟩
  | 15 => ⟨S_, .i32⟩
  | 16 => ⟨S512x24576, .i32⟩
  | 17 => ⟨S512x24576, .i1⟩
  | 18 => ⟨S_, .i32⟩
  | 19 => ⟨S512x24576, .i32⟩
  | 20 => ⟨S512x24576, .i1⟩
  | 21 => ⟨S_, .i32⟩
  | 22 => ⟨S512x24576, .i32⟩
  | 23 => ⟨S512x24576, .i32⟩
  | 24 => ⟨S_, .i32⟩
  | 25 => ⟨S512x24576, .i32⟩
  | 26 => ⟨S512x24576, .i32⟩
  | 27 => ⟨S_, .i32⟩
  | 28 => ⟨S512x24576, .i32⟩
  | 29 => ⟨S512x24576, .i32⟩
  | 30 => ⟨S_, .i32⟩
  | 31 => ⟨S512x24576, .i32⟩
  | 32 => ⟨S512x24576, .i32⟩
  | 33 => ⟨S_, .i32⟩
  | 34 => ⟨S512x24576, .i32⟩
  | 35 => ⟨S512x24576, .i32⟩
  | 36 => ⟨S_, .i32⟩
  | 37 => ⟨S512x24576, .i32⟩
  | 38 => ⟨S512x24576, .i32⟩
  | 39 => ⟨S512x24576, .f32⟩
  | 40 => ⟨S_, .i32⟩
  | 41 => ⟨S512x24576, .i32⟩
  | 42 => ⟨S512x24576, .i32⟩
  | 43 => ⟨S512x24576, .f32⟩
  | 44 => ⟨S512x24576, .f32⟩
  | 45 => ⟨S_, .f32⟩
  | 46 => ⟨S512x24576, .f32⟩
  | 47 => ⟨S512x24576, .i32⟩
  | 48 => ⟨S512x24576, .i32⟩
  | 49 => ⟨S_, .i32⟩
  | 50 => ⟨S512x24576, .i32⟩
  | 51 => ⟨S512x24576, .i32⟩
  | 52 => ⟨S512x24576, .f32⟩
  | 53 => ⟨S512x24576, .f32⟩
  | 54 => ⟨S512x24576, .f32⟩
  | 55 => ⟨S_, .i32⟩
  | 56 => ⟨S512x24576, .i32⟩
  | 57 => ⟨S512x24576, .i1⟩
  | 58 => ⟨S512x24576, .i32⟩
  | 59 => ⟨S_, .i32⟩
  | 60 => ⟨S512x24576, .i32⟩
  | 61 => ⟨S512x24576, .i32⟩
  | 62 => ⟨S512x24576, .i32⟩
  | 63 => ⟨S512x24576, .i32⟩
  | 64 => ⟨S512x24576, .f32⟩
  | 65 => ⟨S512x24576, .f32⟩
  | 66 => ⟨S_, .f32⟩
  | 67 => ⟨S_, .f32⟩
  | 68 => ⟨S512x24576, .f32⟩
  | 69 => ⟨S512x24576, .f32⟩
  | 70 => ⟨S_, .i32⟩
  | 71 => ⟨S512x24576, .i32⟩
  | 72 => ⟨S512x24576, .i1⟩
  | 73 => ⟨S_, .i32⟩
  | 74 => ⟨S512x24576, .i32⟩
  | 75 => ⟨S512x24576, .i1⟩
  | 76 => ⟨S_, .i32⟩
  | 77 => ⟨S512x24576, .i32⟩
  | 78 => ⟨S512x24576, .i32⟩
  | 79 => ⟨S_, .i32⟩
  | 80 => ⟨S512x24576, .i32⟩
  | 81 => ⟨S512x24576, .i32⟩
  | 82 => ⟨S_, .i32⟩
  | 83 => ⟨S512x24576, .i32⟩
  | 84 => ⟨S512x24576, .i32⟩
  | 85 => ⟨S_, .i32⟩
  | 86 => ⟨S512x24576, .i32⟩
  | 87 => ⟨S512x24576, .i32⟩
  | 88 => ⟨S_, .i32⟩
  | 89 => ⟨S512x24576, .i32⟩
  | 90 => ⟨S512x24576, .i32⟩
  | 91 => ⟨S_, .i32⟩
  | 92 => ⟨S512x24576, .i32⟩
  | 93 => ⟨S512x24576, .i32⟩
  | 94 => ⟨S512x24576, .f32⟩
  | 95 => ⟨S_, .i32⟩
  | 96 => ⟨S512x24576, .i32⟩
  | 97 => ⟨S512x24576, .i32⟩
  | 98 => ⟨S512x24576, .f32⟩
  | 99 => ⟨S512x24576, .f32⟩
  | 100 => ⟨S_, .f32⟩
  | 101 => ⟨S512x24576, .f32⟩
  | 102 => ⟨S512x24576, .i32⟩
  | 103 => ⟨S512x24576, .i32⟩
  | 104 => ⟨S_, .i32⟩
  | 105 => ⟨S512x24576, .i32⟩
  | 106 => ⟨S512x24576, .i32⟩
  | 107 => ⟨S512x24576, .f32⟩
  | 108 => ⟨S512x24576, .f32⟩
  | 109 => ⟨S512x24576, .f32⟩
  | 110 => ⟨S_, .i32⟩
  | 111 => ⟨S512x24576, .i32⟩
  | 112 => ⟨S512x24576, .i1⟩
  | 113 => ⟨S512x24576, .i32⟩
  | 114 => ⟨S_, .i32⟩
  | 115 => ⟨S512x24576, .i32⟩
  | 116 => ⟨S512x24576, .i32⟩
  | 117 => ⟨S512x24576, .i32⟩
  | 118 => ⟨S512x24576, .i32⟩
  | 119 => ⟨S512x24576, .f32⟩
  | 120 => ⟨S512x24576, .f32⟩
  | 121 => ⟨S_, .f32⟩
  | 122 => ⟨S_, .f32⟩
  | 123 => ⟨S512x24576, .f32⟩
  | 124 => ⟨S512x24576, .f32⟩
  | 125 => ⟨S512x24576, .bf16⟩
  | 126 => ⟨S512x24576, .bf16⟩
  | 127 => ⟨S2x128x24576, .f32⟩
  | _ => ⟨S2x128x1024, .bf16⟩

abbrev hbmTy0_2 (i : Nat) : BufTy := match i % 128 with
  | 0 => ⟨S2x128x24576, .f32⟩
  | 1 => ⟨S2x128x24576, .f32⟩
  | 2 => ⟨S1x1x24576, .f32⟩
  | 3 => ⟨S2x128x24576, .f32⟩
  | 4 => ⟨S2x128x24576, .f32⟩
  | 5 => ⟨S2x128x24576, .f32⟩
  | 6 => ⟨S2x128x24576, .f32⟩
  | 7 => ⟨S_, .f32⟩
  | 8 => ⟨S2x128x24576, .f32⟩
  | 9 => ⟨S2x128x24576, .f32⟩
  | 10 => ⟨S_, .f32⟩
  | 11 => ⟨S2x128x24576, .f32⟩
  | 12 => ⟨S2x128x24576, .f32⟩
  | 13 => ⟨S2x128x24576, .f32⟩
  | 14 => ⟨S2x128x24576, .f32⟩
  | 15 => ⟨S2x128x24576, .bf16⟩
  | 16 => ⟨S256x24576, .bf16⟩
  | _ => ⟨S2x128x1024, .bf16⟩

abbrev hbmTy (i : Nat) : BufTy := match i / 128 with
  | 0 => hbmTy0_0 i
  | 1 => hbmTy0_1 i
  | 2 => hbmTy0_2 i
  | _ => ⟨S2x128x1024, .bf16⟩

abbrev bufTy : (tb : Table) → Fin (tcTables nBuf tb) → BufTy
  | .hbm, ⟨i, _⟩ => hbmTy i
  | _, _ => ⟨S2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_c_5 : Ref sig .tc := ⟨.hbm, 29, rfl⟩
abbrev main_v16 : Ref sig .tc := ⟨.hbm, 30, rfl⟩
abbrev main_v17 : Ref sig .tc := ⟨.hbm, 31, rfl⟩
abbrev main_c_6 : Ref sig .tc := ⟨.hbm, 32, rfl⟩
abbrev main_v18 : Ref sig .tc := ⟨.hbm, 33, rfl⟩
abbrev main_v19 : Ref sig .tc := ⟨.hbm, 34, rfl⟩
abbrev main_c_7 : Ref sig .tc := ⟨.hbm, 35, rfl⟩
abbrev main_v20 : Ref sig .tc := ⟨.hbm, 36, rfl⟩
abbrev main_v21 : Ref sig .tc := ⟨.hbm, 37, rfl⟩
abbrev main_c_8 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_9 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_12 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_call1_v0 : Ref sig .tc := ⟨.hbm, 69, rfl⟩
abbrev main_call1_v1 : Ref sig .tc := ⟨.hbm, 70, rfl⟩
abbrev main_v46 : Ref sig .tc := ⟨.hbm, 71, rfl⟩
abbrev main_c_14 : Ref sig .tc := ⟨.hbm, 72, rfl⟩
abbrev main_v47 : Ref sig .tc := ⟨.hbm, 73, rfl⟩
abbrev main_v48 : Ref sig .tc := ⟨.hbm, 74, rfl⟩
abbrev main_c_15 : Ref sig .tc := ⟨.hbm, 75, rfl⟩
abbrev main_v49 : Ref sig .tc := ⟨.hbm, 76, rfl⟩
abbrev main_v50 : Ref sig .tc := ⟨.hbm, 77, rfl⟩
abbrev main_c_16 : Ref sig .tc := ⟨.hbm, 78, rfl⟩
abbrev main_v51 : Ref sig .tc := ⟨.hbm, 79, rfl⟩
abbrev main_v52 : Ref sig .tc := ⟨.hbm, 80, rfl⟩
abbrev main_c_17 : Ref sig .tc := ⟨.hbm, 81, rfl⟩
abbrev main_v53 : Ref sig .tc := ⟨.hbm, 82, rfl⟩
abbrev main_v54 : Ref sig .tc := ⟨.hbm, 83, rfl⟩
abbrev main_c_18 : Ref sig .tc := ⟨.hbm, 84, rfl⟩
abbrev main_v55 : Ref sig .tc := ⟨.hbm, 85, rfl⟩
abbrev main_v56 : Ref sig .tc := ⟨.hbm, 86, rfl⟩
abbrev main_c_19 : Ref sig .tc := ⟨.hbm, 87, rfl⟩
abbrev main_v57 : Ref sig .tc := ⟨.hbm, 88, rfl⟩
abbrev main_v58 : Ref sig .tc := ⟨.hbm, 89, rfl⟩
abbrev main_c_20 : Ref sig .tc := ⟨.hbm, 90, rfl⟩
abbrev main_v59 : Ref sig .tc := ⟨.hbm, 91, rfl⟩
abbrev main_v60 : Ref sig .tc := ⟨.hbm, 92, rfl⟩
abbrev main_c_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_22 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_23 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_24 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_25 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_26 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_27 : Ref sig .tc := ⟨.hbm, 123, rfl⟩
abbrev main_call3_v0 : Ref sig .tc := ⟨.hbm, 124, rfl⟩
abbrev main_call3_v1 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_c_28 : Ref sig .tc := ⟨.hbm, 137, rfl⟩
abbrev main_v96 : Ref sig .tc := ⟨.hbm, 138, rfl⟩
abbrev main_v97 : Ref sig .tc := ⟨.hbm, 139, rfl⟩
abbrev main_c_29 : Ref sig .tc := ⟨.hbm, 140, rfl⟩
abbrev main_v98 : Ref sig .tc := ⟨.hbm, 141, rfl⟩
abbrev main_v99 : Ref sig .tc := ⟨.hbm, 142, rfl⟩
abbrev main_c_30 : Ref sig .tc := ⟨.hbm, 143, rfl⟩
abbrev main_v100 : Ref sig .tc := ⟨.hbm, 144, rfl⟩
abbrev main_v101 : Ref sig .tc := ⟨.hbm, 145, rfl⟩
abbrev main_c_31 : Ref sig .tc := ⟨.hbm, 146, rfl⟩
abbrev main_v102 : Ref sig .tc := ⟨.hbm, 147, rfl⟩
abbrev main_v103 : Ref sig .tc := ⟨.hbm, 148, rfl⟩
abbrev main_c_32 : Ref sig .tc := ⟨.hbm, 149, rfl⟩
abbrev main_v104 : Ref sig .tc := ⟨.hbm, 150, rfl⟩
abbrev main_v105 : Ref sig .tc := ⟨.hbm, 151, rfl⟩
abbrev main_c_33 : Ref sig .tc := ⟨.hbm, 152, rfl⟩
abbrev main_v106 : Ref sig .tc := ⟨.hbm, 153, rfl⟩
abbrev main_v107 : Ref sig .tc := ⟨.hbm, 154, rfl⟩
abbrev main_c_34 : Ref sig .tc := ⟨.hbm, 155, rfl⟩
abbrev main_v108 : Ref sig .tc := ⟨.hbm, 156, rfl⟩
abbrev main_v109 : Ref sig .tc := ⟨.hbm, 157, rfl⟩
abbrev main_c_35 : Ref sig .tc := ⟨.hbm, 158, rfl⟩
abbrev main_v110 : Ref sig .tc := ⟨.hbm, 159, rfl⟩
abbrev main_v111 : Ref sig .tc := ⟨.hbm, 160, rfl⟩
abbrev main_c_36 : Ref sig .tc := ⟨.hbm, 161, rfl⟩
abbrev main_v112 : Ref sig .tc := ⟨.hbm, 162, rfl⟩
abbrev main_v113 : Ref sig .tc := ⟨.hbm, 163, rfl⟩
abbrev main_c_37 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_c_38 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_cst_39 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_c_40 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_c_41 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_c_42 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_43 : Ref sig .tc := ⟨.hbm, 194, rfl⟩
abbrev main_call5_v0 : Ref sig .tc := ⟨.hbm, 195, rfl⟩
abbrev main_call5_v1 : Ref sig .tc := ⟨.hbm, 196, rfl⟩
abbrev main_v138 : Ref sig .tc := ⟨.hbm, 197, rfl⟩
abbrev main_c_44 : Ref sig .tc := ⟨.hbm, 198, rfl⟩
abbrev main_v139 : Ref sig .tc := ⟨.hbm, 199, rfl⟩
abbrev main_v140 : Ref sig .tc := ⟨.hbm, 200, rfl⟩
abbrev main_c_45 : Ref sig .tc := ⟨.hbm, 201, rfl⟩
abbrev main_v141 : Ref sig .tc := ⟨.hbm, 202, rfl⟩
abbrev main_v142 : Ref sig .tc := ⟨.hbm, 203, rfl⟩
abbrev main_c_46 : Ref sig .tc := ⟨.hbm, 204, rfl⟩
abbrev main_v143 : Ref sig .tc := ⟨.hbm, 205, rfl⟩
abbrev main_v144 : Ref sig .tc := ⟨.hbm, 206, rfl⟩
abbrev main_c_47 : Ref sig .tc := ⟨.hbm, 207, rfl⟩
abbrev main_v145 : Ref sig .tc := ⟨.hbm, 208, rfl⟩
abbrev main_v146 : Ref sig .tc := ⟨.hbm, 209, rfl⟩
abbrev main_c_48 : Ref sig .tc := ⟨.hbm, 210, rfl⟩
abbrev main_v147 : Ref sig .tc := ⟨.hbm, 211, rfl⟩
abbrev main_v148 : Ref sig .tc := ⟨.hbm, 212, rfl⟩
abbrev main_c_49 : Ref sig .tc := ⟨.hbm, 213, rfl⟩
abbrev main_v149 : Ref sig .tc := ⟨.hbm, 214, rfl⟩
abbrev main_v150 : Ref sig .tc := ⟨.hbm, 215, rfl⟩
abbrev main_c_50 : Ref sig .tc := ⟨.hbm, 216, rfl⟩
abbrev main_v151 : Ref sig .tc := ⟨.hbm, 217, rfl⟩
abbrev main_v152 : Ref sig .tc := ⟨.hbm, 218, rfl⟩
abbrev main_c_51 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_c_52 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_53 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_c_54 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_c_55 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_c_56 : Ref sig .tc := ⟨.hbm, 242, rfl⟩
abbrev main_v171 : Ref sig .tc := ⟨.hbm, 243, rfl⟩
abbrev main_v172 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_v176 : Ref sig .tc := ⟨.hbm, 248, rfl⟩
abbrev main_cst_57 : Ref sig .tc := ⟨.hbm, 249, rfl⟩
abbrev main_call7_v0 : Ref sig .tc := ⟨.hbm, 250, rfl⟩
abbrev main_call7_v1 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩
abbrev main_v183 : Ref sig .tc := ⟨.hbm, 258, rfl⟩
abbrev main_v184 : Ref sig .tc := ⟨.hbm, 259, rfl⟩
abbrev main_v185 : Ref sig .tc := ⟨.hbm, 260, rfl⟩
abbrev main_call8_v0 : Ref sig .tc := ⟨.hbm, 261, rfl⟩
abbrev main_call8_v1 : Ref sig .tc := ⟨.hbm, 262, rfl⟩
abbrev main_call8_cst : Ref sig .tc := ⟨.hbm, 263, rfl⟩
abbrev main_call8_v2 : Ref sig .tc := ⟨.hbm, 264, rfl⟩
abbrev main_call8_v3 : Ref sig .tc := ⟨.hbm, 265, rfl⟩
abbrev main_call8_cst_0 : Ref sig .tc := ⟨.hbm, 266, rfl⟩
abbrev main_call8_v4 : Ref sig .tc := ⟨.hbm, 267, rfl⟩
abbrev main_call8_v5 : Ref sig .tc := ⟨.hbm, 268, rfl⟩
abbrev main_v186 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩

abbrev nD : Nat := 1
abbrev τ : Topo := Topo.v7x

variable {F : FTy → Type} [FloatOps F]
-- ==== Proof.Codec.lean ====
/- The code tables' numbers: the word a table lane holds, bit by bit as the kernel makes it, and what it is as a real
   number. A nibble `n` whose other nibble is 8 is an abfloat, any other an int4; the nibble 8 itself is zero. -/
module

public import Idealize.ShloMosaic.PureOps.Ideal

@[expose] public section

set_option maxRecDepth 16384

noncomputable section

namespace Cert.Codec

open Idealize.ShloMosaic

/-- The power the bias and the exponent field make, clamped to the range the word can hold. -/
def powOf (n b : BitVec 32) : BitVec 32 :=
  IntOp.minsi 128#32 (IntOp.maxsi 4294967169#32
    (IntOp.subi (IntOp.addi (IntOp.shrsi .vector (IntOp.andi n 7#32) 1#32) b) 1#32))

/-- The abfloat's bits, but for its sign. -/
def abfOf (n b : BitVec 32) : BitVec 32 :=
  Scalar.select (IntOp.cmpi .slt (powOf n b) 4294967170#32) 0#32
    (Scalar.select (IntOp.cmpi .sgt (powOf n b) 126#32) 2139095040#32
      (IntOp.ori (IntOp.shli .vector (IntOp.addi (powOf n b) 128#32) 23#32)
        (IntOp.shli .vector (IntOp.andi (IntOp.andi n 7#32) 1#32) 22#32)))

/-- The int4's magnitude. -/
def magOf (n : BitVec 32) : BitVec 32 :=
  Scalar.select (IntOp.cmpi .eq (IntOp.shrsi .vector n 3#32) 1#32) (IntOp.subi 16#32 n) n

/-- Its exponent. -/
def expOf (n : BitVec 32) : BitVec 32 :=
  Scalar.select (IntOp.cmpi .sgt (magOf n) 3#32) 2#32 (Scalar.select (IntOp.cmpi .sgt (magOf n) 1#32) 1#32 0#32)

/-- The int4's bits, but for its sign. -/
def intOf (n : BitVec 32) : BitVec 32 :=
  Scalar.select (IntOp.cmpi .eq (magOf n) 0#32) 0#32
    (IntOp.ori (IntOp.shli .vector (IntOp.addi (expOf n) 127#32) 23#32)
      (IntOp.andi (IntOp.shli .vector (magOf n) (IntOp.subi 23#32 (expOf n))) 8388607#32))

/-- The 32-bit word of table row `r` at bias `b`. -/
def bitsOf (b r : BitVec 32) : BitVec 32 :=
  Scalar.select (IntOp.cmpi .eq (IntOp.andi r 15#32) 8#32) 0#32
    (IntOp.ori (IntOp.shli .vector (IntOp.shrsi .vector (IntOp.andi r 15#32) 3#32) 31#32)
      (Scalar.select (IntOp.cmpi .sge r 16#32) (abfOf (IntOp.andi r 15#32) b) (intOf (IntOp.andi r 15#32))))

/-- The byte of the word at bit `s`. -/
def byteOf (s b r : BitVec 32) : BitVec 8 :=
  (IntOp.subi (IntOp.andi (IntOp.shrsi .vector (bitsOf b r) s) 255#32)
    (IntOp.shli .vector (IntOp.andi (IntOp.shrsi .vector (bitsOf b r) s) 128#32) 1#32)).setWidth 8

/-- The bf16 word of row `r`: its high byte over its low one. -/
def wordOf (b r : BitVec 32) : BitVec 16 := byteOf 24#32 b r ++ byteOf 16#32 b r

/-- The bf16 words of the int4 numbers. -/
def intWord : Fin 16 → BitVec 16 :=
  ![0#16, 0x3F80#16, 0x4000#16, 0x4040#16, 0x4080#16, 0x40A0#16, 0x40C0#16, 0x40E0#16,
    0#16, 0xC0E0#16, 0xC0C0#16, 0xC0A0#16, 0xC080#16, 0xC040#16, 0xC000#16, 0xBF80#16]

/-- The bias whose distance from the least one is `k`. -/
def biasOf (k : Fin 250) : BitVec 32 := BitVec.ofNat 32 k.val - 125#32

theorem wordOf_int (n : Fin 16) (k : Fin 250) : wordOf (biasOf k) (BitVec.ofNat 32 n.val) = intWord n := by
  revert n k; decide +kernel

theorem wordOf_abf (n : Fin 16) (k : Fin 250) : wordOf (biasOf k) (BitVec.ofNat 32 (16 + n.val)) =
    if n = 8 then 0#16 else
      BitVec.ofNat 16 (n.val / 8 * 32768 + (n.val % 8 / 2 + k.val + 2) * 128 + n.val % 2 * 64) := by
  revert n k; decide +kernel

/-- What a nibble `n` with the other nibble `o` stands for, at bias `b`. -/
def value (n o : Fin 16) (b : ℤ) : ℝ :=
  if n = 8 then 0
  else if o = 8 then (1 - 2 * (n.val / 8 : ℕ) : ℤ) * (2 + n.val % 2 : ℕ) * (2 : ℝ) ^ ((n.val % 8 / 2 : ℕ) + b - 1)
  else ((n.val : ℤ) - 16 * (n.val / 8 : ℕ) : ℤ)

theorem ofBits_int (n o : Fin 16) (ho : o ≠ 8) (b : ℤ) :
    Ideal.ofBits .bf16 (intWord n) = ((value n o b : ℝ) : EReal) := by
  unfold value
  rw [if_neg ho]
  have h0 : ∀ w : BitVec 16, Ideal.ofBits .bf16 w = Ideal.ieee 8 7 w := fun _ => rfl
  rw [h0]
  fin_cases n <;> simp [intWord, Ideal.ieee] <;> norm_num <;> rw [← EReal.coe_mul] <;> norm_num

theorem ofBits_abf (n : Fin 16) (k : Fin 250) :
    Ideal.ofBits .bf16 (if n = 8 then 0#16 else
      BitVec.ofNat 16 (n.val / 8 * 32768 + (n.val % 8 / 2 + k.val + 2) * 128 + n.val % 2 * 64))
      = ((value n 8 ((k.val : ℤ) - 125) : ℝ) : EReal) := by
  unfold value
  have h0 : ∀ w : BitVec 16, Ideal.ofBits .bf16 w = Ideal.ieee 8 7 w := fun _ => rfl
  rw [h0]
  by_cases h8 : n = 8
  · rw [if_pos h8, if_pos h8]; simp [Ideal.ieee]
  rw [if_neg h8, if_neg h8, if_pos rfl]
  have hk := k.isLt
  have hn := n.isLt
  generalize hw : n.val / 8 * 32768 + (n.val % 8 / 2 + k.val + 2) * 128 + n.val % 2 * 64 = w
  have hlt : w < 65536 := by omega
  have hs : ((BitVec.ofNat 16 w).extractLsb' 15 1 == 1#1) = decide (n.val / 8 = 1) := by
    rw [Bool.eq_iff_iff, beq_iff_eq, decide_eq_true_iff, ← BitVec.toNat_inj]
    simp only [BitVec.extractLsb'_toNat, BitVec.toNat_ofNat, Nat.shiftRight_eq_div_pow]
    omega
  have he : ((BitVec.ofNat 16 w).extractLsb' 7 8).toNat = n.val % 8 / 2 + k.val + 2 := by
    simp only [BitVec.extractLsb'_toNat, BitVec.toNat_ofNat, Nat.shiftRight_eq_div_pow]
    omega
  have hf : ((BitVec.ofNat 16 w).extractLsb' 0 7).toNat = n.val % 2 * 64 := by
    simp only [BitVec.extractLsb'_toNat, BitVec.toNat_ofNat, Nat.shiftRight_eq_div_pow]
    omega
  unfold Ideal.ieee
  simp only [hs, he, hf]
  rw [if_neg (by omega), if_neg (by omega)]
  congr 1
  have e2 : (2 : ℝ) ^ (((n.val % 8 / 2 : ℕ) : ℤ) + ((k.val : ℤ) - 125) - 1)
      = 64 * (2 : ℝ) ^ (((n.val % 8 / 2 + k.val + 2 : ℕ) : ℤ) - (2 ^ (8 - 1) - 1) - (7 : ℕ)) := by
    rw [show (64 : ℝ) = (2 : ℝ) ^ (6 : ℤ) by norm_num, ← zpow_add₀ (by norm_num)]
    congr 1; push_cast; ring
  rw [e2]
  have hs2 : n.val / 8 = 0 ∨ n.val / 8 = 1 := by omega
  rcases hs2 with h | h <;> rw [h] <;> push_cast <;> norm_num <;> ring

end Cert.Codec

end
-- ==== Proof.Pre.lean ====
/- The precondition, read: each exponent bias lies from -125 to 124. -/
module

public import proofs.«01_k».proof.Defs
public import proofs.«01_k».proof.Proof.Codec
public import Idealize.ShloMosaic.Lib.ValueIdx

@[expose] public section

set_option maxRecDepth 16384

noncomputable section

namespace Cert.Pre_exponents_normal.Hand

open Idealize.ShloMosaic Idealize.ShloMosaic.ValueIdx Cert.Pre_exponents_normal

instance facts : Cert.Pre_exponents_normal.Facts where
  bcast_S_S1 := by decide

theorem both_one : ∀ a b : BitVec 1, IntOp.andi a b = 1#1 → a = 1#1 ∧ b = 1#1 := by decide

theorem biasOf_toInt : ∀ k : Fin 250, (Cert.Codec.biasOf k).toInt = (k.val : ℤ) - 125 := by decide +kernel

/-- A bias in range is one of the 250. -/
theorem bias_range (b : BitVec 32) (h0 : IntOp.cmpi .sge b 4294967171#32 = 1#1) (h1 : IntOp.cmpi .sle b 124#32 = 1#1) :
    ∃ k : Fin 250, b = Cert.Codec.biasOf k := by
  have l0 : -125 ≤ b.toInt := by
    by_contra hc
    have e : (4294967171#32 : BitVec 32).toInt = -125 := by decide
    have : IntOp.cmpi .sge b 4294967171#32 = 0#1 := by
      have h : BitVec.sle 4294967171#32 b = false := by
        unfold BitVec.sle
        rw [e]
        exact decide_eq_false hc
      exact congrArg BitVec.ofBool h
    rw [this] at h0
    exact absurd h0 (by decide)
  have l1 : b.toInt ≤ 124 := by
    by_contra hc
    have e : (124#32 : BitVec 32).toInt = 124 := by decide
    have : IntOp.cmpi .sle b 124#32 = 0#1 := by
      have h : BitVec.sle b 124#32 = false := by
        unfold BitVec.sle
        rw [e]
        exact decide_eq_false hc
      exact congrArg BitVec.ofBool h
    rw [this] at h1
    exact absurd h1 (by decide)
  refine ⟨⟨(b.toInt + 125).toNat, by omega⟩, BitVec.eq_of_toInt_eq ?_⟩
  rw [biasOf_toInt]
  show b.toInt = ((b.toInt + 125).toNat : ℤ) - 125
  omega

theorem biases (x0 : FVec Ideal S2x128x1024 .bf16) (x1 : IVec S512x24576 8) (x2 : FVec Ideal S24576 .f32) (x3 : IVec S1 32)
    (x4 : IVec S512x24576 8) (x5 : FVec Ideal S24576 .f32) (x6 : IVec S1 32)
    (h : fn (F := Ideal) x0 x1 x2 x3 x4 x5 x6 = fun _ => 1#1) :
    (∃ k : Fin 250, x3 (ix1 (0 : Fin 1)) = Cert.Codec.biasOf k) ∧ ∃ k : Fin 250, x6 (ix1 (0 : Fin 1)) = Cert.Codec.biasOf k := by
  have e : IntOp.andi (IntOp.andi (IntOp.andi (IntOp.cmpi .sge (x3 (ix1 (0 : Fin 1))) 4294967171#32)
      (IntOp.cmpi .sle (x3 (ix1 (0 : Fin 1))) 124#32)) (IntOp.cmpi .sge (x6 (ix1 (0 : Fin 1))) 4294967171#32))
      (IntOp.cmpi .sle (x6 (ix1 (0 : Fin 1))) 124#32) = 1#1 := congrFun h (ix1 (0 : Fin 1))
  obtain ⟨e, h3⟩ := both_one _ _ e
  obtain ⟨e, h2⟩ := both_one _ _ e
  obtain ⟨h0, h1⟩ := both_one _ _ e
  exact ⟨bias_range _ h0 h1, bias_range _ h2 h3⟩

end Cert.Pre_exponents_normal.Hand

end
-- ==== Proof.Body.lean ====
/- What the kernel's body computes, said once over any float reading: the decoding of one 32 x 128 block of codes into
   its four 16 x 128 tiles of weights, a 1024 x 128 column of weights, and one 256 x 256 tile of the output. -/
module

public import proofs.«01_k».proof.KernelIdeal
public import proofs.«01_k».proof.Proof.Gen.KernelIdeal.Skeleton

@[expose] public section

set_option maxRecDepth 16384

noncomputable section

namespace Cert.KernelIdeal.Hand

open Idealize.ShloMosaic Cert.KernelIdeal Cert.KernelIdeal.Gen

variable {F : FTy → Type} [FloatOps F]

/-- A look-up along the lanes: lane `idx` of the table's own row. -/
def look (t idx : IVec S32x128 8) : IVec S32x128 8 :=
  trunci 8 (dynamicGather 1 (extui 32 t natLt_8_32)
    (shapeCast S32x128 (shapeCast S32x128x1 (extui 32 idx natLt_8_32) shapeCasts_S32x128_S32x128x1)
      shapeCasts_S32x128x1_S32x128)) natLt_8_32

/-- The looked-up bytes, four rows to the 32-bit word. -/
def words (t idx : IVec S32x128 8) : IVec S8x128 32 := bitcast S8x128 32 (look t idx) bitcasts_S32x128_w8_S8x128_w32

/-- The low nibbles of the codes. -/
def loN (c : IVec S32x128 8) : IVec S32x128 8 := andi c (broadcast S32x128 15#8)

/-- The high nibbles of the codes. -/
def hiN (c : IVec S32x128 8) : IVec S32x128 8 :=
  trunci 8 (shrui (extui 32 c natLt_8_32) (broadcast S32x128 4#32)) natLt_8_32

/-- The index of the low weight of each code: its nibble, flagged by the other one. -/
def idxLo (f c : IVec S32x128 8) : IVec S32x128 8 := ori (loN c) (look f (hiN c))

/-- The index of the high weight of each code. -/
def idxHi (f c : IVec S32x128 8) : IVec S32x128 8 := ori (hiN c) (look f (loN c))

/-- The even rows' bf16 numbers out of the words of high bytes `h` and of low bytes `l`. -/
def evenOf (h l : IVec S8x128 32) : FVec F S16x128 .bf16 :=
  bitcastToFloat .bf16 (bitcast S16x128 16
    (ori (andi l (broadcast S8x128 16711935#32)) (shli (andi h (broadcast S8x128 16711935#32)) (broadcast S8x128 8#32)))
    bitcasts_S8x128_w32_S16x128_w16)

/-- The odd rows' bf16 numbers out of the same words; `o` selects the odd byte rows. -/
def oddOf (o : IVec S32x128 1) (h l : IVec S8x128 32) : FVec F S16x128 .bf16 :=
  bitcastToFloat .bf16 (bitcast S16x128 16
    (bitcast S8x128 32 (select o (bitcast S32x128 8 h bitcasts_S8x128_w32_S32x128_w8)
      (bitcast S32x128 8 (shrui l (broadcast S8x128 8#32)) bitcasts_S8x128_w32_S32x128_w8)) bitcasts_S32x128_w8_S8x128_w32)
    bitcasts_S8x128_w32_S16x128_w16)

/-- The four tiles of one block of codes, in the order in which the kernel stacks them. -/
def tile (h l : IVec S32x128 8) (c : IVec S32x128 8) : Fin 4 → FVec F S16x128 .bf16
  | 0 => evenOf (words h (idxLo k0_pay34 c)) (words l (idxLo k0_pay34 c))
  | 1 => oddOf k0_pay35 (words h (idxLo k0_pay34 c)) (words l (idxLo k0_pay34 c))
  | 2 => evenOf (words h (idxHi k0_pay34 c)) (words l (idxHi k0_pay34 c))
  | 3 => oddOf k0_pay35 (words h (idxHi k0_pay34 c)) (words l (idxHi k0_pay34 c))

/-- Tile `q` of the 64 of one column of weights, out of its sixteen blocks of codes. -/
def tileAt (h l : IVec S32x128 8) (L : Fin 16 → IVec S32x128 8) (q : Fin 64) : FVec F S16x128 .bf16 :=
  tile h l (L ⟨q.val / 4, by omega⟩) ⟨q.val % 4, by omega⟩

theorem tiles_conc (f : Fin 64 → S16x128.Idx → F .bf16) : Shape.Concatenates
    ((List.ofFn fun q : Fin 64 => (⟨S16x128, f q⟩ : (s : Shape) × (s.Idx → F .bf16))).map (·.1)) S1024x128 0 :=
  concatenates_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S16x128_S1024x128_d0

/-- One column of weights: its 64 tiles stacked. -/
def column (h l : IVec S32x128 8) (L : Fin 16 → IVec S32x128 8) : FVec F S1024x128 .bf16 :=
  concatenate S1024x128 0 (List.ofFn fun q : Fin 64 => (⟨S16x128, tileAt h l L q⟩ : (s : Shape) × (s.Idx → F .bf16)))
    (tiles_conc _)

/-- Two columns of weights side by side. -/
def weights (h l : IVec S32x128 8) (L : Fin 2 → Fin 16 → IVec S32x128 8) : FVec F S1024x256 .bf16 :=
  concatenate S1024x256 1 [⟨S1024x128, column h l (L 0)⟩, ⟨S1024x128, column h l (L 1)⟩]
    concatenates_S1024x128_S1024x128_S1024x256_d1

/-- A table out of the table scratch. -/
def tab (t : Vec F S1x32x128 .i8) : IVec S32x128 8 := shapeCast S32x128 t shapeCasts_S1x32x128_S32x128

/-- A matrix product with the decoded weights, each column scaled. -/
def prod (xp : Vec F S256x1024 .bf16) (h l : Vec F S1x32x128 .i8) (L : Fin 2 → Fin 16 → IVec S32x128 8)
    (s : Vec F S1x256 .f32) : FVec F S256x256 .f32 :=
  mulf (matmul dot_S256x1024_S1024x256_S256x256_1_0_0_1_n_n none xp (weights (tab (F := F) h) (tab (F := F) l) L)
      (constant S256x256 .f32 0#32))
    (broadcastTo S256x256 (shapeCast S1x256 s shapeCasts_S1x256_S1x256) broadcasts_S1x256_S256x256)

/-- A tile of the output out of the two products. -/
def glu (g u : FVec F S256x256 .f32) : FVec F S256x256 .bf16 :=
  truncf .bf16 (mulf (mulf g (logistic g)) u) bitsLt_bf16_f32

theorem inb_code (r : Fin 16) (c : Fin 8) :
    ∀ a, (![32 * r.val, 128 * c.val] : Fin 2 → Nat) a + S32x128.size a ≤ S512x1024.size a := by
  have := r.isLt; have := c.isLt
  refine Fin.forall_fin_two.mpr ⟨?_, ?_⟩
  · show 32 * r.val + 32 ≤ 512; omega
  · show 128 * c.val + 128 ≤ 1024; omega

theorem inb_tile (j : Fin 4) :
    ∀ a, (![0, 256 * j.val] : Fin 2 → Nat) a + S256x256.size a ≤ S256x1024.size a := by
  have := j.isLt
  refine Fin.forall_fin_two.mpr ⟨?_, ?_⟩
  · show 0 + 256 ≤ 256; omega
  · show 256 * j.val + 256 ≤ 1024; omega

theorem inb_scale (j : Fin 4) :
    ∀ a, (![0, 256 * j.val] : Fin 2 → Nat) a + S1x256.size a ≤ S1x1024.size a := by
  have := j.isLt
  refine Fin.forall_fin_two.mpr ⟨?_, ?_⟩
  · show 0 + 1 ≤ 1; omega
  · show 256 * j.val + 256 ≤ 1024; omega

theorem inb_tab (q : Fin 4) :
    ∀ a, (![q.val, 0, 0] : Fin 3 → Nat) a + S1x32x128.size a ≤ S4x32x128.size a := by
  have := q.isLt
  intro a
  match a with
  | 0 => show q.val + 1 ≤ 4; omega
  | 1 => show 0 + 32 ≤ 32; omega
  | 2 => show 0 + 128 ≤ 128; omega

/-- The rectangle of block `r` of column `c` of the codes. -/
def rcode (r : Fin 16) (c : Fin 8) : Rect S512x1024 :=
  Rect.unit (s := S512x1024) ![32 * r.val, 128 * c.val] S32x128.size (inb_code r c)

/-- The rectangle of tile `j` of the output block. -/
def rtile (j : Fin 4) : Rect S256x1024 := Rect.unit (s := S256x1024) ![0, 256 * j.val] S256x256.size (inb_tile j)

/-- The rectangle of the scales of tile `j`. -/
def rscale (j : Fin 4) : Rect S1x1024 := Rect.unit (s := S1x1024) ![0, 256 * j.val] S1x256.size (inb_scale j)

/-- The rectangle of table `q`. -/
def rtab (q : Fin 4) : Rect S4x32x128 := Rect.unit (s := S4x32x128) ![q.val, 0, 0] S1x32x128.size (inb_tab q)

/-- What the output's block is made of: the four tiles, the last one first. `T` are the four tables, `Lg` and `Lu` the
    blocks of codes, `sg` and `su` the scales. -/
def pieces (xp : Vec F S256x1024 .bf16) (T : Fin 4 → Vec F S1x32x128 .i8) (Lg Lu : Fin 16 → Fin 8 → IVec S32x128 8)
    (sg su : Fin 4 → Vec F S1x256 .f32) : List (View.Piece (Elt F) S256x1024 .bf16) :=
  (List.ofFn fun j : Fin 4 => (⟨rtile j.rev,
    glu (prod xp (T 0) (T 1) (fun c r => Lg r ⟨2 * j.rev.val + c.val, by omega⟩) (sg j.rev))
      (prod xp (T 2) (T 3) (fun c r => Lu r ⟨2 * j.rev.val + c.val, by omega⟩) (su j.rev))⟩ : View.Piece (Elt F) S256x1024 .bf16))

end Cert.KernelIdeal.Hand

end
-- ==== Proof.PiecesA.lean ====
/- The pieces the run stores at the first point: into the output's block the generic ones of Body.lean, over what it has
   just stored into the two scratch arrays. -/
module

public import proofs.«01_k».proof.Proof.Body
public import proofs.«01_k».proof.Proof.Gen.KernelIdeal.Frame.RunA

@[expose] public section

set_option maxRecDepth 16384

noncomputable section

namespace Cert.KernelIdeal.Hand

open Idealize.ShloMosaic Idealize.ShloMosaic.Tactic Cert.KernelIdeal Cert.KernelIdeal.Gen

variable {F : FTy → Type} [FloatOps F]

theorem piecesA (c : Dev nD) (i : grid0.Coords) (a1) (h1) (a2) (h2) (a3) (h3) (a4) (h4) (a5) (h5) (a6) (h6) (a7) (h7)
    (a8) (h8) (a9) (h9) (a10) (h10) (hc) (x0 x1 x2 x3 x4 x5 x6) :
    (kernelRun0_A (F := F) c i a1 h1 a2 h2 a3 h3 a4 h4 a5 h5 a6 h6 a7 h7 a8 h8 a9 h9 a10 h10 hc
      x0 x1 x2 x3 x4 x5 x6).1 =
    pieces (a9.view.readCov (kernelRun0_A (F := F) c i a1 h1 a2 h2 a3 h3 a4 h4 a5 h5 a6 h6 a7 h7 a8 h8 a9 h9 a10 h10 hc
        x0 x1 x2 x3 x4 x5 x6).2.1 (Rect.unit (s := S256x1024) ![0, 0] S256x1024.size
        inb_S256x1024_S256x1024_0_0).toLoadRect)
      (fun q => a10.view.readCov (kernelRun0_A (F := F) c i a1 h1 a2 h2 a3 h3 a4 h4 a5 h5 a6 h6 a7 h7 a8 h8 a9 h9 a10 h10 hc
        x0 x1 x2 x3 x4 x5 x6).2.2.1 (rtab q).toLoadRect)
      (fun r k => View.readAt (Elt F) a4.view (rcode r k).toLoadRect (h4.unread x3))
      (fun r k => View.readAt (Elt F) a6.view (rcode r k).toLoadRect (h6.unread x5))
      (fun j => View.readAt (Elt F) a5.view (rscale j).toLoadRect (h5.unread x4))
      (fun j => View.readAt (Elt F) a7.view (rscale j).toLoadRect (h7.unread x6)) := by
  sl_kernel_rfl

end Cert.KernelIdeal.Hand

end
-- ==== Proof.PiecesB.lean ====
/- The pieces the run stores into the output's block, at every point but the first: the generic ones of Body.lean. -/
module

public import proofs.«01_k».proof.Proof.Body
public import proofs.«01_k».proof.Proof.Gen.KernelIdeal.Frame.RunB

@[expose] public section

set_option maxRecDepth 16384

noncomputable section

namespace Cert.KernelIdeal.Hand

open Idealize.ShloMosaic Idealize.ShloMosaic.Tactic Cert.KernelIdeal Cert.KernelIdeal.Gen

variable {F : FTy → Type} [FloatOps F]

theorem piecesB (c : Dev nD) (i : grid0.Coords) (a1) (h1) (a2) (h2) (a3) (h3) (a4) (h4) (a5) (h5) (a6) (h6) (a7) (h7)
    (a8) (h8) (a9) (h9) (a10) (h10) (hc) (x0 x1 x2 x3 x4 x5 x6 xs0 xs1) :
    (kernelRun0_B (F := F) c i a1 h1 a2 h2 a3 h3 a4 h4 a5 h5 a6 h6 a7 h7 a8 h8 a9 h9 a10 h10 hc
      x0 x1 x2 x3 x4 x5 x6 xs0 xs1).1 =
    pieces (View.readAt (Elt F) a9.view (Rect.unit (s := S256x1024) ![0, 0] S256x1024.size
        inb_S256x1024_S256x1024_0_0).toLoadRect (h9.unread xs0))
      (fun q => View.readAt (Elt F) a10.view (rtab q).toLoadRect (h10.unread xs1))
      (fun r k => View.readAt (Elt F) a4.view (rcode r k).toLoadRect (h4.unread x3))
      (fun r k => View.readAt (Elt F) a6.view (rcode r k).toLoadRect (h6.unread x5))
      (fun j => View.readAt (Elt F) a5.view (rscale j).toLoadRect (h5.unread x4))
      (fun j => View.readAt (Elt F) a7.view (rscale j).toLoadRect (h7.unread x6)) := by
  sl_kernel_rfl

end Cert.KernelIdeal.Hand

end
-- ==== Proof.ScratchA.lean ====
/- What the first point stores into the two scratch arrays: the reordered operand and the four code tables. -/
module

public import proofs.«01_k».proof.Proof.Body
public import proofs.«01_k».proof.Proof.Codec
public import proofs.«01_k».proof.Proof.Gen.KernelIdeal.Frame.RunA

@[expose] public section

set_option maxRecDepth 16384

noncomputable section

namespace Cert.KernelIdeal.Hand

open Idealize.ShloMosaic Idealize.ShloMosaic.Tactic Cert.KernelIdeal Cert.KernelIdeal.Gen

variable {F : FTy → Type} [FloatOps F]

/-- The table of the bytes at bit `s` of the words of bias `b`. -/
def byteTab (s b : BitVec 32) : IVec S32x128 8 := fun i =>
  Codec.byteOf s b (IntOp.andi (iota .tc S32x128 32 [1] iota_S32x128_d1_w32 i) 31#32)

/-- The byte table `q` holds. -/
def shiftOf : Fin 4 → BitVec 32 := ![24#32, 16#32, 24#32, 16#32]

/-- The bias table `q` is of. -/
def biasAt (g u : BitVec 32) : Fin 4 → BitVec 32 := ![g, g, u, u]

/-- The reordered operand's pieces. -/
def xpPieces (x : Fin 4 → Vec F S256x256 .bf16) : List (View.Piece (Elt F) S256x1024 .bf16) :=
  List.ofFn fun j : Fin 4 => (⟨rtile j.rev, k0_pay6 k0_pay2 (x j.rev)⟩ : View.Piece (Elt F) S256x1024 .bf16)

/-- The tables' pieces. -/
def tabPieces (g u : BitVec 32) : List (View.Piece (Elt F) S4x32x128 .i8) :=
  List.ofFn fun q : Fin 4 => (⟨rtab q.rev, shapeCast S1x32x128 (byteTab (shiftOf q.rev) (biasAt g u q.rev))
    shapeCasts_S32x128_S1x32x128⟩ : View.Piece (Elt F) S4x32x128 .i8)

theorem xpA (c : Dev nD) (i : grid0.Coords) (a1) (h1) (a2) (h2) (a3) (h3) (a4) (h4) (a5) (h5) (a6) (h6) (a7) (h7)
    (a8) (h8) (a9) (h9) (a10) (h10) (hc) (x0 x1 x2 x3 x4 x5 x6) :
    (kernelRun0_A (F := F) c i a1 h1 a2 h2 a3 h3 a4 h4 a5 h5 a6 h6 a7 h7 a8 h8 a9 h9 a10 h10 hc
      x0 x1 x2 x3 x4 x5 x6).2.1 =
    xpPieces (fun j => View.readAt (Elt F) a3.view (rtile j).toLoadRect (h3.unread x2)) := by
  sl_kernel_rfl

theorem tabA (c : Dev nD) (i : grid0.Coords) (a1) (h1) (a2) (h2) (a3) (h3) (a4) (h4) (a5) (h5) (a6) (h6) (a7) (h7)
    (a8) (h8) (a9) (h9) (a10) (h10) (hc) (x0 x1 x2 x3 x4 x5 x6) :
    (kernelRun0_A (F := F) c i a1 h1 a2 h2 a3 h3 a4 h4 a5 h5 a6 h6 a7 h7 a8 h8 a9 h9 a10 h10 hc
      x0 x1 x2 x3 x4 x5 x6).2.2.1 =
    tabPieces
      (View.readAt (Elt F) a1.view (Rect.unit (s := S1) ![0] S1.size inb_S1_S1_0).toLoadRect (h1.unread x0) (Shape.Idx.first (by decide)))
      (View.readAt (Elt F) a2.view (Rect.unit (s := S1) ![0] S1.size inb_S1_S1_0).toLoadRect (h2.unread x1) (Shape.Idx.first (by decide))) := by
  sl_kernel_rfl

end Cert.KernelIdeal.Hand

end
-- ==== Proof.Points.lean ====
/- What each grid point leaves: the output's block and the carried scratch, as functions of the blocks read. -/
module

public import proofs.«01_k».proof.Proof.PiecesA
public import proofs.«01_k».proof.Proof.PiecesB
public import proofs.«01_k».proof.Proof.ScratchA
public import proofs.«01_k».proof.Proof.Gen.KernelIdeal.Frame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Cert.KernelIdeal Cert.KernelIdeal.Gen

variable {F : FTy → Type} [FloatOps F]

/-- The output's block, from the reordered operand, the tables' array and the blocks of codes and scales. -/
def blockOf (xs0 : Vec F S256x1024 .bf16) (xs1 : Vec F S4x32x128 .i8) (x3 : Vec F S512x1024 .i8) (x4 : Vec F S1x1024 .f32)
    (x5 : Vec F S512x1024 .i8) (x6 : Vec F S1x1024 .f32) : Vec F S256x1024 .bf16 :=
  View.canon (pieces xs0 (fun q => View.ld xs1 (rtab q)) (fun r k => View.ld x3 (rcode r k)) (fun r k => View.ld x5 (rcode r k))
    (fun j => View.ld x4 (rscale j)) (fun j => View.ld x6 (rscale j)))

/-- The reordered operand the first point leaves. -/
def scr0 (x2 : Vec F S256x1024 .bf16) : Vec F S256x1024 .bf16 := View.canon (xpPieces fun j => View.ld x2 (rtile j))

/-- The one element of a block of one. -/
def elt (x : Vec F S1 .i32) : BitVec 32 :=
  View.ld x (Rect.unit (s := S1) ![0] S1.size inb_S1_S1_0) (Shape.Idx.first (by decide))

/-- The tables' array the first point leaves. -/
def scr1 (x0 x1 : Vec F S1 .i32) : Vec F S4x32x128 .i8 := View.canon (tabPieces (F := F) (elt x0) (elt x1))

theorem ld_full (x : Vec F S256x1024 .bf16) :
    View.ld x (Rect.unit (s := S256x1024) ![0, 0] S256x1024.size inb_S256x1024_S256x1024_0_0) = x :=
  View.ld_unit_zero (funext fun a : Fin 2 => by match a with | ⟨0, _⟩ => rfl | ⟨1, _⟩ => rfl) _ x

theorem readAt_unread {sp : Space} {s : Shape} {e : EltTy} (a : Memref sig .tc sp s e) (h : a.IsWhole) (x : Vec F s e) (r : Rect s) :
    View.readAt (Elt F) a.view r.toLoadRect (h.unread x) = View.ld x r :=
  congrArg (fun y => View.ld y r) (h.read_unread x)

/-- Pieces made of equal parts make the same block. -/
theorem canon_pieces {xp xp' : Vec F S256x1024 .bf16} {T T' : Fin 4 → Vec F S1x32x128 .i8} {Lg Lg' Lu Lu' : Fin 16 → Fin 8 → IVec S32x128 8}
    {sg sg' su su' : Fin 4 → Vec F S1x256 .f32} (e1 : xp = xp') (e2 : ∀ q, T q = T' q) (e3 : ∀ r k, Lg r k = Lg' r k)
    (e4 : ∀ r k, Lu r k = Lu' r k) (e5 : ∀ j, sg j = sg' j) (e6 : ∀ j, su j = su' j) :
    View.canon (pieces xp T Lg Lu sg su) = View.canon (pieces xp' T' Lg' Lu' sg' su') := by
  obtain rfl := e1
  obtain rfl : T = T' := funext e2
  obtain rfl : Lg = Lg' := funext fun r => funext (e3 r)
  obtain rfl : Lu = Lu' := funext fun r => funext (e4 r)
  obtain rfl : sg = sg' := funext e5
  obtain rfl : su = su' := funext e6
  rfl

section
variable (c : Dev nD) (i : grid0.Coords) (a1) (h1) (a2) (h2) (a3) (h3) (a4) (h4) (a5) (h5) (a6) (h6) (a7) (h7)
    (a8) (h8) (a9) (h9) (a10) (h10)

theorem outB (hc) (x0 x1 x2 x3 x4 x5 x6 xs0 xs1) :
    out0_B_7 (F := F) c i a1 h1 a2 h2 a3 h3 a4 h4 a5 h5 a6 h6 a7 h7 a8 h8 a9 h9 a10 h10 hc x0 x1 x2 x3 x4 x5 x6 xs0 xs1
      = blockOf xs0 xs1 x3 x4 x5 x6 := by
  refine (View.read_writes_eq_canon _ _ _ (cover0_B_7 c i a1 h1 a2 h2 a3 h3 a4 h4 a5 h5 a6 h6 a7 h7 a8 h8 a9 h9 a10 h10 hc x0 x1 x2 x3 x4 x5 x6 xs0 xs1)).trans ?_
  refine (congrArg View.canon (piecesB c i a1 h1 a2 h2 a3 h3 a4 h4 a5 h5 a6 h6 a7 h7 a8 h8 a9 h9 a10 h10 hc x0 x1 x2 x3 x4 x5 x6 xs0 xs1)).trans ?_
  exact canon_pieces ((readAt_unread _ _ _ _).trans (ld_full _)) (fun _ => readAt_unread _ _ _ _) (fun _ _ => readAt_unread _ _ _ _)
    (fun _ _ => readAt_unread _ _ _ _) (fun _ => readAt_unread _ _ _ _) (fun _ => readAt_unread _ _ _ _)

/-- The first point's pieces of the reordered operand, over the block read. -/
theorem canonA0 (hc) (x0 x1 x2 x3 x4 x5 x6) :
    View.canon (kernelRun0_A (F := F) c i a1 h1 a2 h2 a3 h3 a4 h4 a5 h5 a6 h6 a7 h7 a8 h8 a9 h9 a10 h10 hc x0 x1 x2 x3 x4 x5 x6).2.1 = scr0 x2 :=
  (congrArg View.canon (xpA c i a1 h1 a2 h2 a3 h3 a4 h4 a5 h5 a6 h6 a7 h7 a8 h8 a9 h9 a10 h10 hc x0 x1 x2 x3 x4 x5 x6)).trans
    (congrArg (fun x => View.canon (xpPieces x)) (funext fun _ => readAt_unread _ _ _ _))

/-- The first point's pieces of the tables' array, over the two biases. -/
theorem canonA1 (hc) (x0 x1 x2 x3 x4 x5 x6) :
    View.canon (kernelRun0_A (F := F) c i a1 h1 a2 h2 a3 h3 a4 h4 a5 h5 a6 h6 a7 h7 a8 h8 a9 h9 a10 h10 hc x0 x1 x2 x3 x4 x5 x6).2.2.1 = scr1 x0 x1 := by
  refine (congrArg View.canon (tabA c i a1 h1 a2 h2 a3 h3 a4 h4 a5 h5 a6 h6 a7 h7 a8 h8 a9 h9 a10 h10 hc x0 x1 x2 x3 x4 x5 x6)).trans ?_
  exact congrArg₂ (fun g u => View.canon (tabPieces (F := F) g u)) (congrFun (readAt_unread a1 h1 x0 _) _)
    (congrFun (readAt_unread a2 h2 x1 _) _)

theorem scrA0 (hc) (x0 x1 x2 x3 x4 x5 x6) :
    sout0_A_0 (F := F) c i a1 h1 a2 h2 a3 h3 a4 h4 a5 h5 a6 h6 a7 h7 a8 h8 a9 h9 a10 h10 hc x0 x1 x2 x3 x4 x5 x6 = scr0 x2 :=
  (View.read_writes_eq_canon _ _ _ (scover0_A_0 c i a1 h1 a2 h2 a3 h3 a4 h4 a5 h5 a6 h6 a7 h7 a8 h8 a9 h9 a10 h10 hc x0 x1 x2 x3 x4 x5 x6)).trans
    (canonA0 c i a1 h1 a2 h2 a3 h3 a4 h4 a5 h5 a6 h6 a7 h7 a8 h8 a9 h9 a10 h10 hc x0 x1 x2 x3 x4 x5 x6)

theorem scrA1 (hc) (x0 x1 x2 x3 x4 x5 x6) :
    sout0_A_1 (F := F) c i a1 h1 a2 h2 a3 h3 a4 h4 a5 h5 a6 h6 a7 h7 a8 h8 a9 h9 a10 h10 hc x0 x1 x2 x3 x4 x5 x6 = scr1 x0 x1 :=
  (View.read_writes_eq_canon _ _ _ (scover0_A_1 c i a1 h1 a2 h2 a3 h3 a4 h4 a5 h5 a6 h6 a7 h7 a8 h8 a9 h9 a10 h10 hc x0 x1 x2 x3 x4 x5 x6)).trans
    (canonA1 c i a1 h1 a2 h2 a3 h3 a4 h4 a5 h5 a6 h6 a7 h7 a8 h8 a9 h9 a10 h10 hc x0 x1 x2 x3 x4 x5 x6)

theorem outA (hc) (x0 x1 x2 x3 x4 x5 x6) :
    out0_A_7 (F := F) c i a1 h1 a2 h2 a3 h3 a4 h4 a5 h5 a6 h6 a7 h7 a8 h8 a9 h9 a10 h10 hc x0 x1 x2 x3 x4 x5 x6
      = blockOf (scr0 x2) (scr1 x0 x1) x3 x4 x5 x6 := by
  refine (View.read_writes_eq_canon _ _ _ (cover0_A_7 c i a1 h1 a2 h2 a3 h3 a4 h4 a5 h5 a6 h6 a7 h7 a8 h8 a9 h9 a10 h10 hc x0 x1 x2 x3 x4 x5 x6)).trans ?_
  refine (congrArg View.canon (piecesA c i a1 h1 a2 h2 a3 h3 a4 h4 a5 h5 a6 h6 a7 h7 a8 h8 a9 h9 a10 h10 hc x0 x1 x2 x3 x4 x5 x6)).trans ?_
  exact canon_pieces
    ((View.readCov_eq_canon_ld _ _ _ (scover0_A_0 c i a1 h1 a2 h2 a3 h3 a4 h4 a5 h5 a6 h6 a7 h7 a8 h8 a9 h9 a10 h10 hc x0 x1 x2 x3 x4 x5 x6)).trans
      ((congrArg (fun y => View.ld y _) (canonA0 c i a1 h1 a2 h2 a3 h3 a4 h4 a5 h5 a6 h6 a7 h7 a8 h8 a9 h9 a10 h10 hc x0 x1 x2 x3 x4 x5 x6)).trans (ld_full _)))
    (fun _ => (View.readCov_eq_canon_ld _ _ _ (scover0_A_1 c i a1 h1 a2 h2 a3 h3 a4 h4 a5 h5 a6 h6 a7 h7 a8 h8 a9 h9 a10 h10 hc x0 x1 x2 x3 x4 x5 x6)).trans
      (congrArg (fun y => View.ld y _) (canonA1 c i a1 h1 a2 h2 a3 h3 a4 h4 a5 h5 a6 h6 a7 h7 a8 h8 a9 h9 a10 h10 hc x0 x1 x2 x3 x4 x5 x6)))
    (fun _ _ => readAt_unread _ _ _ _)
    (fun _ _ => readAt_unread _ _ _ _) (fun _ => readAt_unread _ _ _ _) (fun _ => readAt_unread _ _ _ _)

theorem scrB0 (hc) (x0 x1 x2 x3 x4 x5 x6 xs0 xs1) : sout0_B_0 (F := F) c i a1 h1 a2 h2 a3 h3 a4 h4 a5 h5 a6 h6 a7 h7 a8 h8 a9 h9 a10 h10 hc x0 x1 x2 x3 x4 x5 x6 xs0 xs1 = xs0 := rfl

theorem scrB1 (hc) (x0 x1 x2 x3 x4 x5 x6 xs0 xs1) : sout0_B_1 (F := F) c i a1 h1 a2 h2 a3 h3 a4 h4 a5 h5 a6 h6 a7 h7 a8 h8 a9 h9 a10 h10 hc x0 x1 x2 x3 x4 x5 x6 xs0 xs1 = xs1 := rfl
end

variable (m : (ℓ : Loc nD τ sig) → Buf (Elt F) ℓ)

theorem pos24 : 0 < cfg0.N := lt_of_lt_of_eq (by decide : 0 < 24) N_0.symm

/-- What a point of the first case leaves. -/
theorem first_eq (c : Dev nD) (t : Fin cfg0.N) (h0 : t.val % 24 = 0) :
    outsAt0 m c t.val t.isLt = (blockOf (scr0 (iblk m c 2 t)) (scr1 (iblk m c 0 t) (iblk m c 1 t))
      (iblk m c 3 t) (iblk m c 4 t) (iblk m c 5 t) (iblk m c 6 t), scr0 (iblk m c 2 t), scr1 (iblk m c 0 t) (iblk m c 1 t)) := by
  exact (outsAt0_A m c t h0).trans (congrArg₂ Prod.mk
    (outA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))
    (congrArg₂ Prod.mk
      (scrA0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))
      (scrA1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t))))

/-- What a later point leaves, over what the point before left. -/
theorem later_eq (c : Dev nD) (t : Fin cfg0.N) (h0 : ¬ t.val % 24 = 0) (p : Vec F S256x1024 .bf16 × Vec F S4x32x128 .i8)
    (hp : ∀ h, (outsAt0 m c (t.val - 1) h).2 = p) :
    outsAt0 m c t.val t.isLt = (blockOf p.1 p.2 (iblk m c 3 t) (iblk m c 4 t) (iblk m c 5 t) (iblk m c 6 t), p.1, p.2) := by
  obtain rfl := hp (lt_of_le_of_lt (Nat.sub_le _ _) t.isLt)
  exact (outsAt0_B m c t h0).trans (congrArg₂ Prod.mk
    (outB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _)
    (congrArg₂ Prod.mk
      (scrB0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _)
      (scrB1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) _ _)))

/-- The scratch after every point is what the first point left. -/
theorem scratch_eq (c : Dev nD) (n : ℕ) (hn : n < cfg0.N) :
    (outsAt0 m c n hn).2 = (scr0 (iblk m c 2 ⟨0, pos24⟩), scr1 (iblk m c 0 ⟨0, pos24⟩) (iblk m c 1 ⟨0, pos24⟩)) := by
  induction n with
  | zero => rw [first_eq m c ⟨0, hn⟩ (Nat.zero_mod _)]
  | succ n ih =>
    have hN := lt_of_lt_of_eq hn N_0
    have h0 : ¬ (n + 1) % 24 = 0 := by omega
    rw [later_eq m c ⟨n + 1, hn⟩ h0 _ ih]

/-- The output's block after point `t`. -/
theorem block_eq (c : Dev nD) (t : Fin cfg0.N) :
    (outsAt0 m c t.val t.isLt).1 = blockOf (scr0 (iblk m c 2 ⟨0, pos24⟩)) (scr1 (iblk m c 0 ⟨0, pos24⟩) (iblk m c 1 ⟨0, pos24⟩))
      (iblk m c 3 t) (iblk m c 4 t) (iblk m c 5 t) (iblk m c 6 t) := by
  have hN := lt_of_lt_of_eq t.isLt N_0
  by_cases h0 : t.val % 24 = 0
  · have ht : (⟨0, pos24⟩ : Fin cfg0.N) = t := Fin.ext (by show 0 = t.val; omega)
    rw [ht, first_eq m c t h0]
  · rw [later_eq m c t h0 _ (fun h => scratch_eq m c _ h)]

end Cert.KernelIdeal.Hand

end
-- ==== Proof.Blocks.lean ====
/- The blocks the windows read, at an index, as entries of the argument arrays. -/
module

public import proofs.«01_k».proof.Proof.Gen.KernelIdeal.Value
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic Idealize.ShloMosaic.ValueIdx Cert.KernelIdeal Cert.KernelIdeal.Gen

variable {F : FTy → Type} [FloatOps F] (m : (ℓ : Loc nD τ sig) → Buf (Elt F) ℓ)

theorem V_v0 (c : Dev nD) : V m c main_v0
    = shapeCast S256x1024 (m ((c : Thread nD τ).loc main_arg0)) shapeCasts_S2x128x1024_S256x1024 := by
  unfold V
  simp only [hostOps0]
  after_results_simp
  rfl

theorem V_v1 (c : Dev nD) : V m c main_v1
    = shapeCast S1x24576 (m ((c : Thread nD τ).loc main_arg2)) shapeCasts_S24576_S1x24576 := by
  unfold V
  simp only [hostOps0]
  after_results_simp
  rfl

theorem V_v2 (c : Dev nD) : V m c main_v2
    = shapeCast S1x24576 (m ((c : Thread nD τ).loc main_arg5)) shapeCasts_S24576_S1x24576 := by
  unfold V
  simp only [hostOps0]
  after_results_simp
  rfl

theorem idx2 : ∀ t : Fin cfg0.N, win0_2.index t (0 : Fin 2) = 0 ∧ win0_2.index t (1 : Fin 2) = 0 := by decide +kernel
theorem idx3 : ∀ t : Fin cfg0.N, win0_3.index t (0 : Fin 2) = 0 ∧ win0_3.index t (1 : Fin 2) = t.val := by decide +kernel
theorem idx4 : ∀ t : Fin cfg0.N, win0_4.index t (0 : Fin 2) = 0 ∧ win0_4.index t (1 : Fin 2) = t.val := by decide +kernel
theorem idx5 : ∀ t : Fin cfg0.N, win0_5.index t (0 : Fin 2) = 0 ∧ win0_5.index t (1 : Fin 2) = t.val := by decide +kernel
theorem idx6 : ∀ t : Fin cfg0.N, win0_6.index t (0 : Fin 2) = 0 ∧ win0_6.index t (1 : Fin 2) = t.val := by decide +kernel

theorem lt24 (t : Fin cfg0.N) : t.val < 24 := lt_of_lt_of_eq t.isLt N_0

/-- Column `n` of the block of point `t`, as a column of the array. -/
def colOf (t : Fin cfg0.N) (n : Fin 1024) : Fin 24576 := ⟨1024 * t.val + n.val, by have := lt24 t; omega⟩

theorem bias_apply (c : Dev nD) (t : Fin cfg0.N) (i j : S1.Idx) : iblk m c 0 t i = m ((c : Thread nD τ).loc main_arg3) j := by
  show V m c main_arg3 (((cfg0.win 0).blk t).view.emb i) = _
  rw [V_main_arg3, show ((cfg0.win 0).blk t).view.emb i = j from funext fun (a : Fin 1) => by
    obtain rfl : a = 0 := Subsingleton.elim _ _
    have h1 : (((cfg0.win 0).blk t).view.emb i 0).val < 1 := (((cfg0.win 0).blk t).view.emb i 0).isLt
    have h2 : (j 0).val < 1 := (j 0).isLt
    exact Fin.ext (by omega)]

theorem bias_apply' (c : Dev nD) (t : Fin cfg0.N) (i j : S1.Idx) : iblk m c 1 t i = m ((c : Thread nD τ).loc main_arg6) j := by
  show V m c main_arg6 (((cfg0.win 1).blk t).view.emb i) = _
  rw [V_main_arg6, show ((cfg0.win 1).blk t).view.emb i = j from funext fun (a : Fin 1) => by
    obtain rfl : a = 0 := Subsingleton.elim _ _
    have h1 : (((cfg0.win 1).blk t).view.emb i 0).val < 1 := (((cfg0.win 1).blk t).view.emb i 0).isLt
    have h2 : (j 0).val < 1 := (j 0).isLt
    exact Fin.ext (by omega)]

theorem x_apply (c : Dev nD) (t : Fin cfg0.N) (i : Fin 256) (d : Fin 1024) :
    iblk m c 2 t (ix2 i d) = m ((c : Thread nD τ).loc main_arg0)
      (ix3 (⟨i.val / 128, by omega⟩ : Fin 2) (⟨i.val % 128, by omega⟩ : Fin 128) d) := by
  show V m c main_v0 (((cfg0.win 2).blk t).view.emb (ix2 i d)) = _
  have e : ((cfg0.win 2).blk t).view.emb (ix2 i d) = ix2 i d := by
    obtain ⟨e0, e1⟩ := idx2 t
    funext a; apply Fin.ext
    match a with
    | ⟨0, _⟩ => show win0_2.index t (0 : Fin 2) * 256 + 1 * i.val = i.val; omega
    | ⟨1, _⟩ => show win0_2.index t (1 : Fin 2) * 1024 + 1 * d.val = d.val; omega
  rw [e, V_v0]
  refine shapeCast_apply _ _ _ _ ?_
  refine ((Shape.rowMajor_val_three (d := ![2, 128, 1024]) _).trans ?_).trans (Shape.rowMajor_val_two (d := ![256, 1024]) _).symm
  show (i.val / 128 * 128 + i.val % 128) * 1024 + d.val = i.val * 1024 + d.val
  omega

theorem codes_apply (c : Dev nD) (t : Fin cfg0.N) (k : Fin 512) (n : Fin 1024) :
    iblk m c 3 t (ix2 k n) = m ((c : Thread nD τ).loc main_arg1) (ix2 k (colOf t n)) := by
  show V m c main_arg1 (((cfg0.win 3).blk t).view.emb (ix2 k n)) = _
  have e : ((cfg0.win 3).blk t).view.emb (ix2 k n) = ix2 k (colOf t n) := by
    obtain ⟨e0, e1⟩ := idx3 t
    funext a; apply Fin.ext
    match a with
    | ⟨0, _⟩ => show win0_3.index t (0 : Fin 2) * 512 + 1 * k.val = k.val; omega
    | ⟨1, _⟩ => show win0_3.index t (1 : Fin 2) * 1024 + 1 * n.val = 1024 * t.val + n.val; omega
  rw [e, V_main_arg1]

theorem codes_apply' (c : Dev nD) (t : Fin cfg0.N) (k : Fin 512) (n : Fin 1024) :
    iblk m c 5 t (ix2 k n) = m ((c : Thread nD τ).loc main_arg4) (ix2 k (colOf t n)) := by
  show V m c main_arg4 (((cfg0.win 5).blk t).view.emb (ix2 k n)) = _
  have e : ((cfg0.win 5).blk t).view.emb (ix2 k n) = ix2 k (colOf t n) := by
    obtain ⟨e0, e1⟩ := idx5 t
    funext a; apply Fin.ext
    match a with
    | ⟨0, _⟩ => show win0_5.index t (0 : Fin 2) * 512 + 1 * k.val = k.val; omega
    | ⟨1, _⟩ => show win0_5.index t (1 : Fin 2) * 1024 + 1 * n.val = 1024 * t.val + n.val; omega
  rw [e, V_main_arg4]

theorem scale_apply (c : Dev nD) (t : Fin cfg0.N) (n : Fin 1024) :
    iblk m c 4 t (ix2 0 n) = m ((c : Thread nD τ).loc main_arg2) (ix1 (colOf t n)) := by
  show V m c main_v1 (((cfg0.win 4).blk t).view.emb (ix2 0 n)) = _
  have e : ((cfg0.win 4).blk t).view.emb (ix2 0 n) = ix2 0 (colOf t n) := by
    obtain ⟨e0, e1⟩ := idx4 t
    funext a; apply Fin.ext
    match a with
    | ⟨0, _⟩ => show win0_4.index t (0 : Fin 2) * 1 + 1 * 0 = 0; omega
    | ⟨1, _⟩ => show win0_4.index t (1 : Fin 2) * 1024 + 1 * n.val = 1024 * t.val + n.val; omega
  rw [e, V_v1]
  refine shapeCast_apply _ _ _ _ ?_
  refine ((Shape.rowMajor_val_one (d := ![24576]) _).trans ?_).trans (Shape.rowMajor_val_two (d := ![1, 24576]) _).symm
  show (colOf t n).val = 0 * 24576 + (colOf t n).val
  omega

theorem scale_apply' (c : Dev nD) (t : Fin cfg0.N) (n : Fin 1024) :
    iblk m c 6 t (ix2 0 n) = m ((c : Thread nD τ).loc main_arg5) (ix1 (colOf t n)) := by
  show V m c main_v2 (((cfg0.win 6).blk t).view.emb (ix2 0 n)) = _
  have e : ((cfg0.win 6).blk t).view.emb (ix2 0 n) = ix2 0 (colOf t n) := by
    obtain ⟨e0, e1⟩ := idx6 t
    funext a; apply Fin.ext
    match a with
    | ⟨0, _⟩ => show win0_6.index t (0 : Fin 2) * 1 + 1 * 0 = 0; omega
    | ⟨1, _⟩ => show win0_6.index t (1 : Fin 2) * 1024 + 1 * n.val = 1024 * t.val + n.val; omega
  rw [e, V_v2]
  refine shapeCast_apply _ _ _ _ ?_
  refine ((Shape.rowMajor_val_one (d := ![24576]) _).trans ?_).trans (Shape.rowMajor_val_two (d := ![1, 24576]) _).symm
  show (colOf t n).val = 0 * 24576 + (colOf t n).val
  omega

end Cert.KernelIdeal.Hand

end
-- ==== Proof.Tile.lean ====
/- The decoded tiles at an index: each weight is the bf16 word whose two bytes the two tables hold at the weight's lane. -/
module

public import proofs.«01_k».proof.Proof.Body
public import proofs.«01_k».proof.Proof.Codec
public import Idealize.ShloMosaic.Lib.BitcastFour
public import Idealize.ShloMosaic.Lib.ValueIdx
public import Idealize.ShloMosaic.Lib.Pipeline.Value

@[expose] public section

set_option maxRecDepth 16384

noncomputable section

namespace Cert.KernelIdeal.Hand

open Idealize.ShloMosaic Idealize.ShloMosaic.ValueIdx Cert.KernelIdeal Cert.KernelIdeal.Gen

/-- A bit-cast at rank 2, bit by bit: bit `q` of row `a` is bit `e` of source row `p`. -/
theorem bitcast_ix2 {v w R r n : Nat} (x : (⟨2, ![R, n]⟩ : Shape).Idx → BitVec v)
    (h : (⟨2, ![R, n]⟩ : Shape).Bitcasts v ⟨2, ![r, n]⟩ w) (hv : 0 < v) (a : Fin r) (l : Fin n) (q : Nat) (hq : q < w)
    (p : Fin R) (e : Nat) (hp : p.val = (a.val * w + q) / v) (he : e = (a.val * w + q) % v) :
    (bitcast ⟨2, ![r, n]⟩ w x h (ix2 a l)).getLsbD q = (x (ix2 p l)).getLsbD e := by
  rw [bitcast_getLsbD x h _ q hq hv, he]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

theorem mask_bit (e : Nat) (he : e < 32) : (16711935#32).getLsbD e = decide (e % 16 < 8) := by
  interval_cases e <;> rfl

theorem shli8 (x : BitVec 32) : IntOp.shli .vector x 8#32 = x <<< 8 := rfl

theorem shrui8 (x : BitVec 32) : IntOp.shrui .vector x 8#32 = x >>> 8 := rfl

/-- The even rows' words: high byte over low byte, both from row `2 r`. -/
theorem even_word (H L : IVec S32x128 8) (r : Fin 16) (l : Fin 128) (p : Fin 32) (hp : p.val = 2 * r.val) :
    bitcast S16x128 16
      (ori (andi (bitcast S8x128 32 L bitcasts_S32x128_w8_S8x128_w32) (broadcast S8x128 16711935#32))
        (shli (andi (bitcast S8x128 32 H bitcasts_S32x128_w8_S8x128_w32) (broadcast S8x128 16711935#32))
          (broadcast S8x128 8#32)))
      bitcasts_S8x128_w32_S16x128_w16 (ix2 r l) = H (ix2 p l) ++ L (ix2 p l) := by
  have hr := r.isLt
  apply BitVec.eq_of_getLsbD_eq
  intro i hi
  have hi' : i < 16 := hi
  rw [bitcast_ix2 _ bitcasts_S8x128_w32_S16x128_w16 (by decide) r l i hi ⟨r.val / 2, by omega⟩ (16 * (r.val % 2) + i)
    (by show r.val / 2 = _; omega) (by omega)]
  have e32 : 16 * (r.val % 2) + i < 32 := by omega
  show (IntOp.ori (IntOp.andi (bitcast S8x128 32 L bitcasts_S32x128_w8_S8x128_w32 (ix2 _ l)) 16711935#32)
    (IntOp.shli .vector (IntOp.andi (bitcast S8x128 32 H bitcasts_S32x128_w8_S8x128_w32 (ix2 _ l)) 16711935#32) 8#32)).getLsbD _ = _
  rw [shli8]
  unfold IntOp.ori IntOp.andi
  rw [BitVec.getLsbD_or, BitVec.getLsbD_and, BitVec.getLsbD_shiftLeft, BitVec.getLsbD_and, BitVec.getLsbD_append,
    mask_bit _ e32]
  by_cases h8 : i < 8
  · rw [if_pos h8]
    have hm : (16 * (r.val % 2) + i) % 16 < 8 := by omega
    rw [bitcast_ix2 L bitcasts_S32x128_w8_S8x128_w32 (by decide) _ l _ e32 p i
      (by rw [hp]; show 2 * r.val = (r.val / 2 * 32 + (16 * (r.val % 2) + i)) / 8; omega)
      (by show i = (r.val / 2 * 32 + (16 * (r.val % 2) + i)) % 8; omega)]
    by_cases hlt : 16 * (r.val % 2) + i < 8
    · rw [decide_eq_true hm, decide_eq_true hlt]
      simp
    · rw [mask_bit _ (by omega)]
      have : ¬ (16 * (r.val % 2) + i - 8) % 16 < 8 := by omega
      rw [decide_eq_true hm, decide_eq_false this]
      simp
  · rw [if_neg h8]
    have hm : ¬ (16 * (r.val % 2) + i) % 16 < 8 := by omega
    have hlt : ¬ 16 * (r.val % 2) + i < 8 := by omega
    rw [mask_bit _ (by omega), bitcast_ix2 H bitcasts_S32x128_w8_S8x128_w32 (by decide) _ l _ (by omega) p (i - 8)
      (by rw [hp]; show 2 * r.val = (r.val / 2 * 32 + (16 * (r.val % 2) + i - 8)) / 8; omega)
      (by show i - 8 = (r.val / 2 * 32 + (16 * (r.val % 2) + i - 8)) % 8; omega)]
    have : (16 * (r.val % 2) + i - 8) % 16 < 8 := by omega
    rw [decide_eq_false hm, decide_eq_false hlt, decide_eq_true this, decide_eq_true e32]
    simp

theorem odd_flag (n : Nat) (h : n < 32) :
    IntOp.cmpi .ne (BitVec.setWidth 8 (IntOp.andi (BitVec.ofNat 32 n) 1#32)) 0#8 = if n % 2 = 1 then 1#1 else 0#1 := by
  interval_cases n <;> rfl

/-- A choice under the odd-row mask. -/
theorem select_odd (A B : IVec S32x128 8) (a : Fin 32) (l : Fin 128) :
    select k0_pay35 A B (ix2 a l) = if a.val % 2 = 1 then A (ix2 a l) else B (ix2 a l) := by
  have h : k0_pay35 (ix2 a l) = if a.val % 2 = 1 then 1#1 else 0#1 := by
    show IntOp.cmpi .ne (BitVec.setWidth 8 (IntOp.andi (iota _ _ _ _ iota_S32x128_d0_w32 (ix2 a l)) 1#32)) 0#8 = _
    rw [iota_single_apply]
    exact odd_flag a.val a.isLt
  show Scalar.select (k0_pay35 (ix2 a l)) (A (ix2 a l)) (B (ix2 a l)) = _
  rw [h]
  split <;> rfl

/-- The odd rows' words: high byte over low byte, both from row `2 r + 1`. -/
theorem odd_word (H L : IVec S32x128 8) (r : Fin 16) (l : Fin 128) (p : Fin 32) (hp : p.val = 2 * r.val + 1) :
    bitcast S16x128 16
      (bitcast S8x128 32 (select k0_pay35
        (bitcast S32x128 8 (bitcast S8x128 32 H bitcasts_S32x128_w8_S8x128_w32) bitcasts_S8x128_w32_S32x128_w8)
        (bitcast S32x128 8 (shrui (bitcast S8x128 32 L bitcasts_S32x128_w8_S8x128_w32) (broadcast S8x128 8#32))
          bitcasts_S8x128_w32_S32x128_w8)) bitcasts_S32x128_w8_S8x128_w32)
      bitcasts_S8x128_w32_S16x128_w16 (ix2 r l) = H (ix2 p l) ++ L (ix2 p l) := by
  have hr := r.isLt
  apply BitVec.eq_of_getLsbD_eq
  intro i hi
  have hi' : i < 16 := hi
  rw [bitcast_ix2 _ bitcasts_S8x128_w32_S16x128_w16 (by decide) r l i hi ⟨r.val / 2, by omega⟩ (16 * (r.val % 2) + i)
    (by show r.val / 2 = _; omega) (by omega)]
  have e32 : 16 * (r.val % 2) + i < 32 := by omega
  rw [bitcast_ix2 _ bitcasts_S32x128_w8_S8x128_w32 (by decide) _ l _ e32 ⟨2 * r.val + i / 8, by omega⟩ (i % 8)
    (by show 2 * r.val + i / 8 = (r.val / 2 * 32 + (16 * (r.val % 2) + i)) / 8; omega)
    (by show i % 8 = (r.val / 2 * 32 + (16 * (r.val % 2) + i)) % 8; omega), BitVec.getLsbD_append]
  rw [select_odd]
  by_cases h8 : i < 8
  · rw [if_pos h8, if_neg (show ¬ (2 * r.val + i / 8) % 2 = 1 by omega)]
    rw [bitcast_ix2 _ bitcasts_S8x128_w32_S32x128_w8 (by decide) _ l _ (by omega) ⟨r.val / 2, by omega⟩ (16 * (r.val % 2) + i)
      (by show r.val / 2 = ((2 * r.val + i / 8) * 8 + i % 8) / 32; omega)
      (by show _ = ((2 * r.val + i / 8) * 8 + i % 8) % 32; omega)]
    show (IntOp.shrui .vector (bitcast S8x128 32 L bitcasts_S32x128_w8_S8x128_w32 (ix2 _ l)) 8#32).getLsbD _ = _
    rw [shrui8, BitVec.getLsbD_ushiftRight,
      bitcast_ix2 L bitcasts_S32x128_w8_S8x128_w32 (by decide) _ l _ (by omega) p i
      (by rw [hp]; show 2 * r.val + 1 = (r.val / 2 * 32 + (8 + (16 * (r.val % 2) + i))) / 8; omega)
      (by show i = (r.val / 2 * 32 + (8 + (16 * (r.val % 2) + i))) % 8; omega)]
  · rw [if_neg h8, if_pos (show (2 * r.val + i / 8) % 2 = 1 by omega)]
    rw [bitcast_ix2 _ bitcasts_S8x128_w32_S32x128_w8 (by decide) _ l _ (by omega) ⟨r.val / 2, by omega⟩ (16 * (r.val % 2) + i)
      (by show r.val / 2 = ((2 * r.val + i / 8) * 8 + i % 8) / 32; omega)
      (by show _ = ((2 * r.val + i / 8) * 8 + i % 8) % 32; omega),
      bitcast_ix2 H bitcasts_S32x128_w8_S8x128_w32 (by decide) _ l _ e32 p (i - 8)
      (by rw [hp]; show 2 * r.val + 1 = (r.val / 2 * 32 + (16 * (r.val % 2) + i)) / 8; omega)
      (by show i - 8 = (r.val / 2 * 32 + (16 * (r.val % 2) + i)) % 8; omega)]

/-- A look-up at an index. -/
theorem look_apply (t idx : IVec S32x128 8) (a : Fin 32) (l : Fin 128) (k : Fin 128)
    (hk : k.val = (idx (ix2 a l)).toNat % 128) : look t idx (ix2 a l) = t (ix2 a k) := by
  unfold look
  rw [shapeCast_shapeCast]
  simp only [trunci, dynamicGather, extui]
  rw [BitVec.setWidth_setWidth_of_le _ (by decide), BitVec.setWidth_eq]
  congr 1
  funext b
  match b with
  | ⟨0, _⟩ => rfl
  | ⟨1, _⟩ =>
    refine Fin.ext ?_
    show ((idx (ix2 a l)).setWidth 32).toNat % 128 = k.val
    rw [hk, BitVec.toNat_setWidth]
    have := (idx (ix2 a l)).isLt
    omega

/-- The flag of a nibble: 16 where it is 8. -/
def flagOf (k : Nat) : BitVec 8 := if k % 16 = 8 then 16#8 else 0#8

theorem flag_lane (n : Fin 128) : BitVec.setWidth 8 (Scalar.select
    (IntOp.cmpi .eq (IntOp.andi (BitVec.ofNat 32 n.val) 15#32) 8#32) 16#32 0#32) = flagOf n.val := by
  revert n; decide +kernel

theorem pay34_apply (a : Fin 32) (l : Fin 128) : k0_pay34 (ix2 a l) = flagOf l.val := by
  show BitVec.setWidth 8 (Scalar.select
    (IntOp.cmpi .eq (IntOp.andi (iota _ _ _ _ iota_S32x128_d1_w32 (ix2 a l)) 15#32) 8#32) 16#32 0#32) = _
  rw [iota_single_apply]
  exact flag_lane l

/-- The low nibble of a code. -/
def nibLo (c : BitVec 8) : Fin 16 := ⟨c.toNat % 16, Nat.mod_lt _ (by decide)⟩

/-- The high nibble of a code. -/
def nibHi (c : BitVec 8) : Fin 16 := ⟨c.toNat / 16, by have := c.isLt; omega⟩

/-- The table row of a nibble `n` beside a nibble `o`. -/
def rowOf (n o : Fin 16) : Nat := if o = 8 then 16 + n.val else n.val

theorem nib_lo (k : Fin 256) : (IntOp.ori (IntOp.andi (BitVec.ofNat 8 k.val) 15#8)
    (flagOf (((IntOp.shrui .vector ((BitVec.ofNat 8 k.val).setWidth 32) 4#32).setWidth 8).toNat % 128))).toNat
      = rowOf (nibLo (BitVec.ofNat 8 k.val)) (nibHi (BitVec.ofNat 8 k.val)) := by
  revert k; decide +kernel

theorem nib_hi (k : Fin 256) : (IntOp.ori ((IntOp.shrui .vector ((BitVec.ofNat 8 k.val).setWidth 32) 4#32).setWidth 8)
    (flagOf ((IntOp.andi (BitVec.ofNat 8 k.val) 15#8).toNat % 128))).toNat
      = rowOf (nibHi (BitVec.ofNat 8 k.val)) (nibLo (BitVec.ofNat 8 k.val)) := by
  revert k; decide +kernel

theorem rowOf_lt (n o : Fin 16) : rowOf n o < 32 := by
  have := n.isLt
  unfold rowOf
  split <;> omega

theorem idxLo_apply (c : IVec S32x128 8) (a : Fin 32) (l : Fin 128) :
    (idxLo k0_pay34 c (ix2 a l)).toNat = rowOf (nibLo (c (ix2 a l))) (nibHi (c (ix2 a l))) := by
  show (IntOp.ori (IntOp.andi (c (ix2 a l)) 15#8) (look k0_pay34 (hiN c) (ix2 a l))).toNat = _
  rw [look_apply k0_pay34 (hiN c) a l ⟨(hiN c (ix2 a l)).toNat % 128, Nat.mod_lt _ (by decide)⟩ rfl, pay34_apply]
  have h := nib_lo ⟨(c (ix2 a l)).toNat, (c (ix2 a l)).isLt⟩
  simp only [BitVec.ofNat_toNat, BitVec.setWidth_eq] at h
  exact h

theorem idxHi_apply (c : IVec S32x128 8) (a : Fin 32) (l : Fin 128) :
    (idxHi k0_pay34 c (ix2 a l)).toNat = rowOf (nibHi (c (ix2 a l))) (nibLo (c (ix2 a l))) := by
  show (IntOp.ori ((IntOp.shrui .vector ((c (ix2 a l)).setWidth 32) 4#32).setWidth 8)
    (look k0_pay34 (loN c) (ix2 a l))).toNat = _
  rw [look_apply k0_pay34 (loN c) a l ⟨(loN c (ix2 a l)).toNat % 128, Nat.mod_lt _ (by decide)⟩ rfl, pay34_apply]
  have h := nib_hi ⟨(c (ix2 a l)).toNat, (c (ix2 a l)).isLt⟩
  simp only [BitVec.ofNat_toNat, BitVec.setWidth_eq] at h
  exact h

/-- A table of bytes: the byte at bit `s` of each lane's word, the lanes' rows repeating every 32. -/
def ByteTab (s b : BitVec 32) (t : IVec S32x128 8) : Prop :=
  ∀ (a : Fin 32) (k : Fin 128), t (ix2 a k) = Codec.byteOf s b (BitVec.ofNat 32 (k.val % 32))

theorem look_byte {s b : BitVec 32} {t : IVec S32x128 8} (ht : ByteTab s b t) (idx : IVec S32x128 8) (a : Fin 32)
    (l : Fin 128) (n o : Fin 16) (hi : (idx (ix2 a l)).toNat = rowOf n o) :
    look t idx (ix2 a l) = Codec.byteOf s b (BitVec.ofNat 32 (rowOf n o)) := by
  have hlt := rowOf_lt n o
  rw [look_apply t idx a l ⟨rowOf n o, by omega⟩ (by rw [hi]; show rowOf n o = _; omega), ht]
  show Codec.byteOf s b (BitVec.ofNat 32 (rowOf n o % 32)) = _
  rw [Nat.mod_eq_of_lt hlt]

/-- The word of a nibble, as a number. -/
theorem ofBits_word (n o : Fin 16) (k : Fin 250) :
    Ideal.ofBits .bf16 (Codec.wordOf (Codec.biasOf k) (BitVec.ofNat 32 (rowOf n o)))
      = ((Codec.value n o ((k.val : ℤ) - 125) : ℝ) : EReal) := by
  unfold rowOf
  by_cases ho : o = 8
  · rw [if_pos ho, Codec.wordOf_abf, Codec.ofBits_abf, ho]
  · rw [if_neg ho, Codec.wordOf_int, Codec.ofBits_int n o ho]

/-- The weight a code holds in its low (`q < 2`) or high half. -/
def weightOf (c : BitVec 8) (q : Nat) (b : ℤ) : ℝ :=
  if q < 2 then Codec.value (nibLo c) (nibHi c) b else Codec.value (nibHi c) (nibLo c) b

/-- A tile at an index. -/
theorem tile_apply (k : Fin 250) (h l : IVec S32x128 8) (hh : ByteTab 24#32 (Codec.biasOf k) h)
    (hl : ByteTab 16#32 (Codec.biasOf k) l) (c : IVec S32x128 8) (q : Fin 4) (r : Fin 16) (lane : Fin 128) (p : Fin 32)
    (hp : p.val = 2 * r.val + q.val % 2) :
    tile (F := Ideal) h l c q (ix2 r lane) = ((weightOf (c (ix2 p lane)) q.val ((k.val : ℤ) - 125) : ℝ) : EReal) := by
  have lo := idxLo_apply c p lane
  have hi := idxHi_apply c p lane
  match q with
  | 0 =>
    refine (congrArg (Ideal.ofBits .bf16) ((even_word (look h (idxLo k0_pay34 c)) (look l (idxLo k0_pay34 c)) r lane p hp).trans
      (congrArg₂ _ (look_byte hh _ p lane _ _ lo) (look_byte hl _ p lane _ _ lo)))).trans (ofBits_word _ _ k)
  | 1 =>
    refine (congrArg (Ideal.ofBits .bf16) ((odd_word (look h (idxLo k0_pay34 c)) (look l (idxLo k0_pay34 c)) r lane p hp).trans
      (congrArg₂ _ (look_byte hh _ p lane _ _ lo) (look_byte hl _ p lane _ _ lo)))).trans (ofBits_word _ _ k)
  | 2 =>
    refine (congrArg (Ideal.ofBits .bf16) ((even_word (look h (idxHi k0_pay34 c)) (look l (idxHi k0_pay34 c)) r lane p hp).trans
      (congrArg₂ _ (look_byte hh _ p lane _ _ hi) (look_byte hl _ p lane _ _ hi)))).trans (ofBits_word _ _ k)
  | 3 =>
    refine (congrArg (Ideal.ofBits .bf16) ((odd_word (look h (idxHi k0_pay34 c)) (look l (idxHi k0_pay34 c)) r lane p hp).trans
      (congrArg₂ _ (look_byte hh _ p lane _ _ hi) (look_byte hl _ p lane _ _ hi)))).trans (ofBits_word _ _ k)

end Cert.KernelIdeal.Hand

end
-- ==== Proof.Order.lean ====
/- The reordering of the operand's columns: a product with a 0/1 matrix, which picks one column for each. -/
module

public import proofs.«01_k».proof.Proof.Body
public import Idealize.ShloMosaic.Lib.ValueIdx
public import Idealize.ShloMosaic.Lib.Pipeline.Value
public import Idealize.ShloMosaic.Lib.MatmulPlain
public import Idealize.ShloMosaic.Lib.IdealHost

@[expose] public section

set_option maxRecDepth 16384

noncomputable section

namespace Cert.KernelIdeal.Hand

open Idealize.ShloMosaic Idealize.ShloMosaic.ValueIdx Cert.KernelIdeal Cert.KernelIdeal.Gen

/-- The place the kernel's order gives to column `s`. -/
def wantOf (s : BitVec 32) : BitVec 32 :=
  IntOp.addi (IntOp.addi (IntOp.addi (IntOp.addi (IntOp.andi s 4294967232#32) (IntOp.muli 32#32 (IntOp.andi s 1#32)))
    (IntOp.muli 16#32 (IntOp.andi (IntOp.shrsi .vector s 1#32) 1#32)))
    (IntOp.muli 2#32 (IntOp.andi (IntOp.shrsi .vector s 3#32) 7#32))) (IntOp.andi (IntOp.shrsi .vector s 2#32) 1#32)

/-- The same as a number. -/
def dstOf (s : Nat) : Nat := 64 * (s / 64) + 32 * (s % 2) + 16 * (s / 2 % 2) + 2 * (s / 8 % 8) + s / 4 % 2

theorem wantOf_eq (s : Fin 256) : wantOf (BitVec.ofNat 32 s.val) = BitVec.ofNat 32 (dstOf s.val) := by
  revert s; decide +kernel

/-- The column that stands at place `d`. -/
def srcOf {n : Nat} (hn : n % 64 = 0) (d : Fin n) : Fin n :=
  ⟨64 * (d.val / 64) + 4 * (d.val % 16) + 2 * (d.val / 16 % 2) + d.val / 32 % 2, by have := d.isLt; omega⟩

theorem dst_src (s : Fin 256) : dstOf s.val < 256 ∧ 64 * (dstOf s.val / 64) + 4 * (dstOf s.val % 16)
    + 2 * (dstOf s.val / 16 % 2) + dstOf s.val / 32 % 2 = s.val := by
  revert s; decide +kernel

theorem src_dst (d : Fin 256) :
    dstOf (64 * (d.val / 64) + 4 * (d.val % 16) + 2 * (d.val / 16 % 2) + d.val / 32 % 2) = d.val := by
  revert d; decide +kernel

theorem want_flag (s d : Fin 256) : Scalar.select (IntOp.cmpi .eq (wantOf (BitVec.ofNat 32 s.val)) (BitVec.ofNat 32 d.val))
    (1 : EReal) 0 = if s = srcOf (by decide) d then 1 else 0 := by
  have hs := s.isLt
  have hd := d.isLt
  rw [wantOf_eq]
  have hiff : BitVec.ofNat 32 (dstOf s.val) = BitVec.ofNat 32 d.val ↔ s = srcOf (by decide) d := by
    constructor
    · intro h
      have h' := congrArg BitVec.toNat h
      rw [BitVec.toNat_ofNat, BitVec.toNat_ofNat, Nat.mod_eq_of_lt (by have := (dst_src s).1; omega),
        Nat.mod_eq_of_lt (by omega)] at h'
      have h2 := (dst_src s).2
      rw [h'] at h2
      exact Fin.ext h2.symm
    · intro h
      have h' : s.val = 64 * (d.val / 64) + 4 * (d.val % 16) + 2 * (d.val / 16 % 2) + d.val / 32 % 2 := congrArg Fin.val h
      rw [h', src_dst]
  by_cases h : s = srcOf (by decide) d
  · rw [if_pos h, hiff.mpr h]
    simp [Scalar.select, IntOp.cmpi]
  · rw [if_neg h]
    have : ¬ BitVec.ofNat 32 (dstOf s.val) = BitVec.ofNat 32 d.val := fun e => h (hiff.mp e)
    simp [Scalar.select, IntOp.cmpi, beq_eq_false_iff_ne.mpr this]

theorem order_apply (s d : Fin 256) :
    k0_pay2 (F := Ideal) (ix2 s d) = if s = srcOf (by decide) d then 1 else 0 := by
  rw [← want_flag]
  show Scalar.select (IntOp.cmpi .eq (wantOf (iota _ _ _ _ iota_S256x256_d0_w32 (ix2 s d)))
    (iota _ _ _ _ iota_S256x256_d1_w32 (ix2 s d))) (Ideal.ofBits .f32 0x3F800000#32) (Ideal.ofBits .f32 0x00000000#32) = _
  rw [iota_single_apply, iota_single_apply, Ideal.ofBits_one_f32, Ideal.ofBits_zero_f32]

theorem reorder_apply (v : Vec Ideal S256x256 .bf16) (i d : Fin 256) :
    k0_pay6 k0_pay2 v (ix2 i d) = v (ix2 i (srcOf (by decide) d)) := by
  unfold k0_pay6
  simp only [shapeCast_self]
  refine (Ideal.matmul_plain_apply (φ₁ := .bf16) none v (k0_pay2 (F := Ideal)) (constant S256x256 .f32 0x00000000#32) i d).trans ?_
  rw [show (constant S256x256 .f32 0x00000000#32 : FVec Ideal S256x256 .f32) (ix2 i d) = 0 from Ideal.ofBits_zero_f32, zero_add]
  rw [Finset.sum_eq_single (srcOf (by decide) d)]
  · rw [order_apply, if_pos rfl]; exact mul_one _
  · intro s _ hs
    rw [order_apply, if_neg hs]; exact mul_zero _
  · intro h; exact absurd (Finset.mem_univ _) h

end Cert.KernelIdeal.Hand

end
-- ==== Proof.Column.lean ====
/- One entry of the product with the decoded weights, and one entry of an output block. -/
module

public import proofs.«01_k».proof.Proof.Tile
public import proofs.«01_k».proof.Proof.Order
public import proofs.«01_k».proof.Proof.Gen.KernelIdeal.Frame
public import Idealize.ShloMosaic.Lib.Pipeline.ValueKit.Tiles

@[expose] public section

set_option maxRecDepth 16384

noncomputable section

namespace Cert.KernelIdeal.Hand

open Idealize.ShloMosaic Idealize.ShloMosaic.ValueIdx Cert.KernelIdeal Cert.KernelIdeal.Gen

/-- The row of codes the weight row `k` comes from. -/
def codeRow (k : Fin 1024) : Fin 512 := ⟨32 * (k.val / 64) + 2 * (k.val % 16) + k.val / 16 % 2, by have := k.isLt; omega⟩

/-- The half of the code it comes from. -/
def codeHalf (k : Fin 1024) : Fin 2 := ⟨k.val / 32 % 2, by omega⟩

theorem row_left (k : Fin 1024) : 64 * ((codeRow k).val / 32) + 32 * (codeHalf k).val + 16 * ((codeRow k).val % 2)
    + (codeRow k).val % 32 / 2 = k.val := by
  revert k; decide +kernel

theorem row_right (a : Fin 512) (p : Fin 2) : ∃ h : 64 * (a.val / 32) + 32 * p.val + 16 * (a.val % 2) + a.val % 32 / 2 < 1024,
    codeRow ⟨_, h⟩ = a ∧ codeHalf ⟨_, h⟩ = p := by
  revert a p; decide +kernel

/-- Weight rows are the halves of code rows. -/
def rowEquiv : Fin 1024 ≃ Fin 512 × Fin 2 where
  toFun k := (codeRow k, codeHalf k)
  invFun p := ⟨64 * (p.1.val / 32) + 32 * p.2.val + 16 * (p.1.val % 2) + p.1.val % 32 / 2, by
    have := p.1.isLt; have := p.2.isLt; omega⟩
  left_inv k := Fin.ext (row_left k)
  right_inv p := by
    obtain ⟨h, h1, h2⟩ := row_right p.1 p.2
    exact Prod.ext h1 h2

/-- The weight a code holds in its half `p`. -/
def halfOf (c : BitVec 8) (b : ℤ) : Fin 2 → ℝ
  | 0 => Codec.value (nibLo c) (nibHi c) b
  | 1 => Codec.value (nibHi c) (nibLo c) b

/-- A row of the operand against a column of codes. -/
def dotOf (X : Fin 1024 → EReal) (C : Fin 512 → BitVec 8) (b : ℤ) : EReal :=
  (∑ k : Fin 512, X ⟨2 * k.val, by omega⟩ * ((halfOf (C k) b 0 : ℝ) : EReal))
    + ∑ k : Fin 512, X ⟨2 * k.val + 1, by omega⟩ * ((halfOf (C k) b 1 : ℝ) : EReal)

/-- One term of that product. -/
def termOf (X : Fin 1024 → EReal) (C : Fin 512 → BitVec 8) (b : ℤ) (p : Fin 512 × Fin 2) : EReal :=
  X ⟨2 * p.1.val + p.2.val, by have := p.1.isLt; have := p.2.isLt; omega⟩ * ((halfOf (C p.1) b p.2 : ℝ) : EReal)

theorem sum_termOf (X : Fin 1024 → EReal) (C : Fin 512 → BitVec 8) (b : ℤ) :
    ∑ k : Fin 1024, termOf X C b (rowEquiv k) = dotOf X C b := by
  rw [Equiv.sum_comp rowEquiv (termOf X C b), Fintype.sum_prod_type]
  simp only [Fin.sum_univ_two]
  rw [Finset.sum_add_distrib]
  rfl

theorem weightOf_half (c : BitVec 8) (q : Nat) (hq : q < 4) (b : ℤ) (p : Fin 2) (hp : p.val = q / 2) :
    weightOf c q b = halfOf c b p := by
  unfold weightOf
  match p with
  | 0 =>
    have h : 0 = q / 2 := hp
    rw [if_pos (by omega)]; rfl
  | 1 =>
    have h : 1 = q / 2 := hp
    rw [if_neg (by omega)]; rfl

theorem column_apply (k0 : Fin 250) (h l : IVec S32x128 8) (hh : ByteTab 24#32 (Codec.biasOf k0) h)
    (hl : ByteTab 16#32 (Codec.biasOf k0) l) (L : Fin 16 → IVec S32x128 8) (C : Fin 512 → BitVec 8) (n : Fin 128)
    (hC : ∀ (r : Fin 16) (a : Fin 32), L r (ix2 a n) = C ⟨32 * r.val + a.val, by omega⟩) (k : Fin 1024) :
    column (F := Ideal) h l L (ix2 k n) = ((halfOf (C (codeRow k)) ((k0.val : ℤ) - 125) (codeHalf k) : ℝ) : EReal) := by
  have hk := k.isLt
  unfold column
  rw [concatenate_ofFn_apply (t := S1024x128) (s₁ := S16x128) 0 (tileAt (F := Ideal) h l L) _ rfl 16 rfl (ix2 k n)
    ⟨k.val / 16, by omega⟩ rfl (ix2 ⟨k.val % 16, by omega⟩ n) rfl (by
      intro b hb
      match b with
      | ⟨0, _⟩ => exact absurd rfl hb
      | ⟨1, _⟩ => rfl)]
  show tile (F := Ideal) h l (L ⟨k.val / 16 / 4, _⟩) ⟨k.val / 16 % 4, _⟩ (ix2 _ n) = _
  rw [tile_apply k0 h l hh hl _ _ _ n ⟨2 * (k.val % 16) + k.val / 16 % 4 % 2, by omega⟩ rfl, hC]
  rw [weightOf_half _ (k.val / 16 % 4) (by omega) _ (codeHalf k) (by show k.val / 32 % 2 = k.val / 16 % 4 / 2; omega)]
  have e : (⟨32 * (k.val / 16 / 4) + (2 * (k.val % 16) + k.val / 16 % 4 % 2), by omega⟩ : Fin 512) = codeRow k :=
    Fin.ext (by simp only [codeRow]; omega)
  rw [e]

theorem weights_apply (k0 : Fin 250) (h l : IVec S32x128 8) (hh : ByteTab 24#32 (Codec.biasOf k0) h)
    (hl : ByteTab 16#32 (Codec.biasOf k0) l) (L : Fin 2 → Fin 16 → IVec S32x128 8) (C : Fin 256 → Fin 512 → BitVec 8)
    (hC : ∀ (c : Fin 2) (r : Fin 16) (a : Fin 32) (n : Fin 128),
      L c r (ix2 a n) = C ⟨128 * c.val + n.val, by omega⟩ ⟨32 * r.val + a.val, by omega⟩) (k : Fin 1024) (n : Fin 256) :
    weights (F := Ideal) h l L (ix2 k n)
      = ((halfOf (C n (codeRow k)) ((k0.val : ℤ) - 125) (codeHalf k) : ℝ) : EReal) := by
  have hn := n.isLt
  unfold weights
  by_cases h1 : n.val < 128
  · rw [concatenate_pair_apply_left (t := S1024x256) (s₁ := S1024x128) (s₂ := S1024x128) 1 (column (F := Ideal) h l (L 0))
      (column (F := Ideal) h l (L 1)) _ (ix2 k n) rfl (ix2 k ⟨n.val, h1⟩) (by
        intro b
        match b with
        | ⟨0, _⟩ => rfl
        | ⟨1, _⟩ => rfl)]
    refine column_apply k0 h l hh hl (L 0) (C n) _ ?_ k
    intro r a
    refine (hC 0 r a _).trans (congrArg (fun z => C z ⟨32 * r.val + a.val, by omega⟩) (Fin.ext ?_))
    show 128 * 0 + n.val = n.val
    omega
  · rw [concatenate_pair_apply_right (t := S1024x256) (s₁ := S1024x128) (s₂ := S1024x128) 1 (column (F := Ideal) h l (L 0))
      (column (F := Ideal) h l (L 1)) _ (ix2 k n) rfl rfl (ix2 k ⟨n.val - 128, by omega⟩) (by
        intro b hb
        match b with
        | ⟨0, _⟩ => rfl
        | ⟨1, _⟩ => exact absurd rfl hb) (by show n.val - 128 + 128 = n.val; omega)]
    refine column_apply k0 h l hh hl (L 1) (C n) _ ?_ k
    intro r a
    refine (hC 1 r a _).trans (congrArg (fun z => C z ⟨32 * r.val + a.val, by omega⟩) (Fin.ext ?_))
    show 128 * 1 + (n.val - 128) = n.val
    omega

theorem prod_apply (k0 : Fin 250) (xp : Vec Ideal S256x1024 .bf16) (h l : Vec Ideal S1x32x128 .i8)
    (hh : ByteTab 24#32 (Codec.biasOf k0) (tab (F := Ideal) h)) (hl : ByteTab 16#32 (Codec.biasOf k0) (tab (F := Ideal) l))
    (L : Fin 2 → Fin 16 → IVec S32x128 8) (s : Vec Ideal S1x256 .f32) (X : Fin 256 → Fin 1024 → EReal)
    (hx : ∀ (i : Fin 256) (d : Fin 1024), xp (ix2 i d) = X i (srcOf (by decide) d)) (C : Fin 256 → Fin 512 → BitVec 8)
    (hC : ∀ (c : Fin 2) (r : Fin 16) (a : Fin 32) (n : Fin 128),
      L c r (ix2 a n) = C ⟨128 * c.val + n.val, by omega⟩ ⟨32 * r.val + a.val, by omega⟩) (i n : Fin 256) :
    prod xp h l L s (ix2 i n) = dotOf (X i) (C n) ((k0.val : ℤ) - 125) * s (ix2 0 n) := by
  have hs : broadcastTo S256x256 (shapeCast S1x256 s shapeCasts_S1x256_S1x256) broadcasts_S1x256_S256x256 (ix2 i n)
      = s (ix2 0 n) := by
    rw [shapeCast_self, broadcastTo_apply _ _ _ (ix2 0 n)]
    intro a
    match a with
    | ⟨0, _⟩ => rfl
    | ⟨1, _⟩ => rfl
  have hm : (matmul (φ₁ := .bf16) dot_S256x1024_S1024x256_S256x256_1_0_0_1_n_n none xp (weights (F := Ideal) (tab (F := Ideal) h) (tab (F := Ideal) l) L)
      (constant S256x256 .f32 0#32) : FVec Ideal S256x256 .f32) (ix2 i n) = dotOf (X i) (C n) ((k0.val : ℤ) - 125) := by
    refine (Ideal.matmul_plain_apply (φ₁ := .bf16) none xp (weights (F := Ideal) (tab (F := Ideal) h) (tab (F := Ideal) l) L)
      (constant S256x256 .f32 0#32) i n).trans ?_
    rw [show (constant S256x256 .f32 0#32 : FVec Ideal S256x256 .f32) (ix2 i n) = 0 from Ideal.ofBits_zero_f32, zero_add]
    have hterm : ∀ k : Fin 1024, xp (ix2 i k) * weights (F := Ideal) (tab (F := Ideal) h) (tab (F := Ideal) l) L (ix2 k n)
        = termOf (X i) (C n) ((k0.val : ℤ) - 125) (rowEquiv k) := by
      intro k
      rw [weights_apply k0 _ _ hh hl L C hC, hx]
      have hk := k.isLt
      have e : srcOf (by decide) k = (⟨2 * (codeRow k).val + (codeHalf k).val, by
          have := (codeRow k).isLt; have := (codeHalf k).isLt; omega⟩ : Fin 1024) :=
        Fin.ext (by simp only [srcOf, codeRow, codeHalf]; omega)
      rw [e]
      rfl
    exact (Finset.sum_congr rfl fun k _ => hterm k).trans (sum_termOf _ _ _)
  show (matmul (φ₁ := .bf16) dot_S256x1024_S1024x256_S256x256_1_0_0_1_n_n none xp (weights (F := Ideal) (tab (F := Ideal) h) (tab (F := Ideal) l) L)
      (constant S256x256 .f32 0#32) : FVec Ideal S256x256 .f32) (ix2 i n)
    * broadcastTo S256x256 (shapeCast S1x256 s shapeCasts_S1x256_S1x256) broadcasts_S1x256_S256x256 (ix2 i n) = _
  rw [hs, hm]

/-- The gate times its logistic, times the up value. -/
def gluOf (g u : EReal) : EReal := g * Ideal.logistic g * u

theorem glu_apply (g u : FVec Ideal S256x256 .f32) (j : S256x256.Idx) : glu g u j = gluOf (g j) (u j) := rfl

/-- One entry of the block the pieces make. -/
theorem block_apply (kg ku : Fin 250) (xp : Vec Ideal S256x1024 .bf16) (T : Fin 4 → Vec Ideal S1x32x128 .i8)
    (h0 : ByteTab 24#32 (Codec.biasOf kg) (tab (F := Ideal) (T 0))) (h1 : ByteTab 16#32 (Codec.biasOf kg) (tab (F := Ideal) (T 1)))
    (h2 : ByteTab 24#32 (Codec.biasOf ku) (tab (F := Ideal) (T 2))) (h3 : ByteTab 16#32 (Codec.biasOf ku) (tab (F := Ideal) (T 3)))
    (Lg Lu : Fin 16 → Fin 8 → IVec S32x128 8) (sg su : Fin 4 → Vec Ideal S1x256 .f32) (X : Fin 256 → Fin 1024 → EReal)
    (hx : ∀ (i : Fin 256) (d : Fin 1024), xp (ix2 i d) = X i (srcOf (by decide) d)) (Cg Cu : Fin 1024 → Fin 512 → BitVec 8)
    (hg : ∀ (r : Fin 16) (c : Fin 8) (a : Fin 32) (n : Fin 128),
      Lg r c (ix2 a n) = Cg ⟨128 * c.val + n.val, by omega⟩ ⟨32 * r.val + a.val, by omega⟩)
    (hu : ∀ (r : Fin 16) (c : Fin 8) (a : Fin 32) (n : Fin 128),
      Lu r c (ix2 a n) = Cu ⟨128 * c.val + n.val, by omega⟩ ⟨32 * r.val + a.val, by omega⟩)
    (Sg Su : Fin 1024 → EReal) (hsg : ∀ (j : Fin 4) (n : Fin 256), sg j (ix2 0 n) = Sg ⟨256 * j.val + n.val, by omega⟩)
    (hsu : ∀ (j : Fin 4) (n : Fin 256), su j (ix2 0 n) = Su ⟨256 * j.val + n.val, by omega⟩) (i : Fin 256) (m : Fin 1024) :
    View.canon (pieces xp T Lg Lu sg su) (ix2 i m)
      = gluOf (dotOf (X i) (Cg m) ((kg.val : ℤ) - 125) * Sg m) (dotOf (X i) (Cu m) ((ku.val : ℤ) - 125) * Su m) := by
  have hm := m.isLt
  have key : ∀ (t : Fin 4) (n : Fin 256), 256 * t.val + n.val = m.val →
      glu (prod xp (T 0) (T 1) (fun c r => Lg r ⟨2 * t.val + c.val, by omega⟩) (sg t))
        (prod xp (T 2) (T 3) (fun c r => Lu r ⟨2 * t.val + c.val, by omega⟩) (su t)) (ix2 i n)
      = gluOf (dotOf (X i) (Cg m) ((kg.val : ℤ) - 125) * Sg m) (dotOf (X i) (Cu m) ((ku.val : ℤ) - 125) * Su m) := by
    intro t n en
    have em : (⟨256 * t.val + n.val, by omega⟩ : Fin 1024) = m := Fin.ext en
    rw [glu_apply,
      prod_apply kg xp _ _ h0 h1 _ _ X hx (fun n => Cg ⟨256 * t.val + n.val, by have := n.isLt; omega⟩) (by
        intro c r a n
        refine (hg r _ a n).trans (congrArg (fun z => Cg z ⟨32 * r.val + a.val, by omega⟩) (Fin.ext ?_))
        show 128 * (2 * t.val + c.val) + n.val = 256 * t.val + (128 * c.val + n.val)
        omega),
      prod_apply ku xp _ _ h2 h3 _ _ X hx (fun n => Cu ⟨256 * t.val + n.val, by have := n.isLt; omega⟩) (by
        intro c r a n
        refine (hu r _ a n).trans (congrArg (fun z => Cu z ⟨32 * r.val + a.val, by omega⟩) (Fin.ext ?_))
        show 128 * (2 * t.val + c.val) + n.val = 256 * t.val + (128 * c.val + n.val)
        omega),
      hsg, hsu, em]
  unfold pieces
  refine View.canon_ofFn_eq_of_forall _ _ _ _ ?_ ?_
  · refine ⟨(⟨m.val / 256, by omega⟩ : Fin 4).rev, ?_⟩
    rw [Fin.rev_rev]
    refine Rect.mem_set_unit.mpr (Fin.forall_fin_two.mpr ⟨?_, ?_⟩)
    · exact ⟨Nat.zero_le _, by show i.val < 0 + 256; omega⟩
    · exact ⟨by show 256 * (m.val / 256) ≤ m.val; omega, by show m.val < 256 * (m.val / 256) + 256; omega⟩
  · intro j x hx'
    have e0 : 0 + 1 * (x 0).val = i.val := congrArg (fun y : S256x1024.Idx => (y 0).val) hx'
    have e1 : 256 * j.rev.val + 1 * (x 1).val = m.val := congrArg (fun y : S256x1024.Idx => (y 1).val) hx'
    have hxi : x = ix2 i (⟨(x 1).val, (x 1).isLt⟩ : Fin 256) := by
      funext b
      match b with
      | ⟨0, _⟩ => exact Fin.ext (by show (x 0).val = i.val; omega)
      | ⟨1, _⟩ => rfl
    exact (congrArg _ hxi).trans (key j.rev ⟨(x 1).val, (x 1).isLt⟩ (by show 256 * j.rev.val + (x 1).val = m.val; omega))

end Cert.KernelIdeal.Hand

end
-- ==== Proof.Scratch.lean ====
/- The two scratch arrays, read at an index: the reordered operand and the four code tables. -/
module

public import proofs.«01_k».proof.Proof.ScratchA
public import proofs.«01_k».proof.Proof.Column

@[expose] public section

set_option maxRecDepth 16384

noncomputable section

namespace Cert.KernelIdeal.Hand

open Idealize.ShloMosaic Idealize.ShloMosaic.Tactic Idealize.ShloMosaic.ValueIdx Cert.KernelIdeal Cert.KernelIdeal.Gen

theorem lane_mod : ∀ k : Fin 128, IntOp.andi (BitVec.ofNat 32 k.val) 31#32 = BitVec.ofNat 32 (k.val % 32) := by
  decide +kernel

theorem byteTab_apply (s b : BitVec 32) (a : Fin 32) (k : Fin 128) :
    byteTab s b (ix2 a k) = Codec.byteOf s b (BitVec.ofNat 32 (k.val % 32)) := by
  show Codec.byteOf s b (IntOp.andi (iota .tc S32x128 32 [1] iota_S32x128_d1_w32 (ix2 a k)) 31#32) = _
  rw [iota_single_apply]
  exact congrArg (Codec.byteOf s b) (lane_mod k)

/-- The tables' array holds, in row `q`, the bytes of table `q`. -/
theorem tables_apply (g u : BitVec 32) (q : Fin 4) (a : Fin 32) (k : Fin 128) :
    View.canon (tabPieces (F := Ideal) g u) (ix3 q a k) = Codec.byteOf (shiftOf q) (biasAt g u q) (BitVec.ofNat 32 (k.val % 32)) := by
  have key : ∀ t : Fin 4, t = q → ∀ x : (rtab t).shape.Idx, (rtab t).emb x = ix3 q a k →
      shapeCast S1x32x128 (byteTab (shiftOf t) (biasAt g u t)) shapeCasts_S32x128_S1x32x128 x
        = Codec.byteOf (shiftOf q) (biasAt g u q) (BitVec.ofNat 32 (k.val % 32)) := by
    rintro t rfl x hx
    have e1 : 0 + 1 * (x 1).val = a.val := congrArg (fun y : S4x32x128.Idx => (y 1).val) hx
    have e2 : 0 + 1 * (x 2).val = k.val := congrArg (fun y : S4x32x128.Idx => (y 2).val) hx
    refine (shapeCast_addUnit_apply (d := ![32, 128]) _ _ x).trans ?_
    refine (congrArg _ ?_).trans (byteTab_apply _ _ a k)
    funext y
    match y with
    | ⟨0, _⟩ => exact Fin.ext (by show (x 1).val = a.val; omega)
    | ⟨1, _⟩ => exact Fin.ext (by show (x 2).val = k.val; omega)
  unfold tabPieces
  refine View.canon_ofFn_eq_of_forall _ _ _ _ ⟨q.rev, ?_⟩ ?_
  · rw [Fin.rev_rev]
    refine Rect.mem_set_unit.mpr fun y => ?_
    match y with
    | ⟨0, _⟩ => exact ⟨by show q.val ≤ q.val; omega, by show q.val < q.val + 1; omega⟩
    | ⟨1, _⟩ => exact ⟨Nat.zero_le _, by show a.val < 0 + 32; omega⟩
    | ⟨2, _⟩ => exact ⟨Nat.zero_le _, by show k.val < 0 + 128; omega⟩
  · intro j x hx
    have e0 : j.rev.val + 1 * (x 0).val = q.val := congrArg (fun y : S4x32x128.Idx => (y 0).val) hx
    have h0 : (x 0).val < 1 := (x 0).isLt
    exact key j.rev (Fin.ext (by omega)) x hx

/-- Table `q` of the array, read back. -/
theorem table_read (g u : BitVec 32) (q : Fin 4) :
    ByteTab (shiftOf q) (biasAt g u q) (tab (F := Ideal) (View.ld (View.canon (tabPieces (F := Ideal) g u)) (rtab q))) := by
  intro a k
  refine (shapeCast_dropUnit_apply (d := ![32, 128]) _ _ (ix2 a k)).trans ?_
  refine Eq.trans ?_ (tables_apply g u q a k)
  refine congrArg (View.canon (tabPieces (F := Ideal) g u)) ?_
  funext y
  match y with
  | ⟨0, _⟩ => exact Fin.ext (by show q.val + 1 * 0 = q.val; omega)
  | ⟨1, _⟩ => exact Fin.ext (by show 0 + 1 * a.val = a.val; omega)
  | ⟨2, _⟩ => exact Fin.ext (by show 0 + 1 * k.val = k.val; omega)

theorem srcOf_tile : ∀ (t : Fin 4) (n : Fin 256),
    256 * t.val + (srcOf (n := 256) (by decide) n).val = (srcOf (n := 1024) (by decide) ⟨256 * t.val + n.val, by omega⟩).val := by
  decide +kernel

/-- The reordered operand, at an index. -/
theorem operand_apply (x : Fin 4 → Vec Ideal S256x256 .bf16) (X : Fin 256 → Fin 1024 → EReal)
    (hx : ∀ (j : Fin 4) (i n : Fin 256), x j (ix2 i n) = X i ⟨256 * j.val + n.val, by omega⟩) (i : Fin 256) (d : Fin 1024) :
    View.canon (xpPieces (F := Ideal) x) (ix2 i d) = X i (srcOf (by decide) d) := by
  have hd := d.isLt
  have key : ∀ (t : Fin 4) (n : Fin 256), 256 * t.val + n.val = d.val →
      (k0_pay6 (F := Ideal) k0_pay2 (x t)) (ix2 i n) = X i (srcOf (by decide) d) := by
    intro t n en
    have em : (⟨256 * t.val + n.val, by omega⟩ : Fin 1024) = d := Fin.ext en
    refine (reorder_apply (x t) i n).trans ((hx t i _).trans (congrArg (X i) (Fin.ext ?_)))
    rw [← em]
    exact srcOf_tile t n
  unfold xpPieces
  refine View.canon_ofFn_eq_of_forall _ _ _ _ ⟨(⟨d.val / 256, by omega⟩ : Fin 4).rev, ?_⟩ ?_
  · rw [Fin.rev_rev]
    refine Rect.mem_set_unit.mpr (Fin.forall_fin_two.mpr ⟨?_, ?_⟩)
    · exact ⟨Nat.zero_le _, by show i.val < 0 + 256; omega⟩
    · exact ⟨by show 256 * (d.val / 256) ≤ d.val; omega, by show d.val < 256 * (d.val / 256) + 256; omega⟩
  · intro j x hx'
    have e0 : 0 + 1 * (x 0).val = i.val := congrArg (fun y : S256x1024.Idx => (y 0).val) hx'
    have e1 : 256 * j.rev.val + 1 * (x 1).val = d.val := congrArg (fun y : S256x1024.Idx => (y 1).val) hx'
    have hxi : x = ix2 i (⟨(x 1).val, (x 1).isLt⟩ : Fin 256) := by
      funext y
      match y with
      | ⟨0, _⟩ => exact Fin.ext (by show (x 0).val = i.val; omega)
      | ⟨1, _⟩ => rfl
    exact (congrArg _ hxi).trans (key j.rev ⟨(x 1).val, (x 1).isLt⟩ (by show 256 * j.rev.val + (x 1).val = d.val; omega))

end Cert.KernelIdeal.Hand

end
-- ==== Proof.Outcome.lean ====
/- One entry of the result, from the argument arrays: what both sides compute. -/
module

public import proofs.«01_k».proof.Proof.Column

@[expose] public section

noncomputable section

namespace Cert.KernelIdeal.Hand

open Idealize.ShloMosaic Idealize.ShloMosaic.ValueIdx Cert.KernelIdeal

/-- The result at row `i` and column `y`. -/
def outVal (x0 : S2x128x1024.Idx → EReal) (x1 : S512x24576.Idx → BitVec 8) (x2 : S24576.Idx → EReal) (kg : Fin 250)
    (x4 : S512x24576.Idx → BitVec 8) (x5 : S24576.Idx → EReal) (ku : Fin 250) (i : Fin 256) (y : Fin 24576) : EReal :=
  gluOf
    (dotOf (fun d => x0 (ix3 (⟨i.val / 128, by omega⟩ : Fin 2) (⟨i.val % 128, by omega⟩ : Fin 128) d)) (fun k => x1 (ix2 k y))
      ((kg.val : ℤ) - 125) * x2 (ix1 y))
    (dotOf (fun d => x0 (ix3 (⟨i.val / 128, by omega⟩ : Fin 2) (⟨i.val % 128, by omega⟩ : Fin 128) d)) (fun k => x4 (ix2 k y))
      ((ku.val : ℤ) - 125) * x5 (ix1 y))

end Cert.KernelIdeal.Hand

end
-- ==== Proof.Final.lean ====
/- The kernel's result, at an index. -/
module

public import proofs.«01_k».proof.Proof.Points
public import proofs.«01_k».proof.Proof.Blocks
public import proofs.«01_k».proof.Proof.Scratch
public import proofs.«01_k».proof.Proof.Outcome

@[expose] public section

set_option maxRecDepth 16384

noncomputable section

namespace Cert.KernelIdeal.Hand

open Idealize.ShloMosaic Idealize.ShloMosaic.TcCoe Idealize.ShloMosaic.Tactic Idealize.ShloMosaic.ValueIdx Cert.KernelIdeal Cert.KernelIdeal.Gen

theorem tile_ld (x : Vec Ideal S256x1024 .bf16) (j : Fin 4) (i n : Fin 256) :
    View.ld x (rtile j) (ix2 i n) = x (ix2 i (⟨256 * j.val + n.val, by omega⟩ : Fin 1024)) := by
  refine congrArg x (funext fun a : Fin 2 => ?_)
  match a with
  | ⟨0, _⟩ => exact Fin.ext (by show 0 + 1 * i.val = i.val; omega)
  | ⟨1, _⟩ => exact Fin.ext (by show 256 * j.val + 1 * n.val = 256 * j.val + n.val; omega)

theorem scale_ld (x : Vec Ideal S1x1024 .f32) (j : Fin 4) (n : Fin 256) :
    View.ld x (rscale j) (ix2 0 n) = x (ix2 0 (⟨256 * j.val + n.val, by omega⟩ : Fin 1024)) := by
  refine congrArg x (funext fun a : Fin 2 => ?_)
  match a with
  | ⟨0, _⟩ => rfl
  | ⟨1, _⟩ => exact Fin.ext (by show 256 * j.val + 1 * n.val = 256 * j.val + n.val; omega)

theorem code_ld (x : Vec Ideal S512x1024 .i8) (r : Fin 16) (k : Fin 8) (a : Fin 32) (n : Fin 128) :
    View.ld x (rcode r k) (ix2 a n)
      = x (ix2 (⟨32 * r.val + a.val, by omega⟩ : Fin 512) (⟨128 * k.val + n.val, by omega⟩ : Fin 1024)) := by
  refine congrArg x (funext fun b : Fin 2 => ?_)
  match b with
  | ⟨0, _⟩ => exact Fin.ext (by show 32 * r.val + 1 * a.val = 32 * r.val + a.val; omega)
  | ⟨1, _⟩ => exact Fin.ext (by show 128 * k.val + 1 * n.val = 128 * k.val + n.val; omega)

/-- The output's block, from the blocks of the arrays. -/
theorem blockOf_apply (kg ku : Fin 250) (x0 x1 : Vec Ideal S1 .i32) (e0 : elt x0 = Codec.biasOf kg) (e1 : elt x1 = Codec.biasOf ku)
    (x2 : Vec Ideal S256x1024 .bf16) (x3 : Vec Ideal S512x1024 .i8) (x4 : Vec Ideal S1x1024 .f32) (x5 : Vec Ideal S512x1024 .i8)
    (x6 : Vec Ideal S1x1024 .f32) (i : Fin 256) (n : Fin 1024) :
    blockOf (scr0 x2) (scr1 x0 x1) x3 x4 x5 x6 (ix2 i n)
      = gluOf (dotOf (fun d => x2 (ix2 i d)) (fun k => x3 (ix2 k n)) ((kg.val : ℤ) - 125) * x4 (ix2 0 n))
          (dotOf (fun d => x2 (ix2 i d)) (fun k => x5 (ix2 k n)) ((ku.val : ℤ) - 125) * x6 (ix2 0 n)) := by
  have T : ∀ q : Fin 4, ByteTab (shiftOf q) (biasAt (Codec.biasOf kg) (Codec.biasOf ku) q)
      (tab (F := Ideal) (View.ld (scr1 x0 x1) (rtab q))) := by
    intro q
    unfold scr1
    rw [e0, e1]
    exact table_read _ _ q
  exact block_apply kg ku (scr0 x2) (fun q => View.ld (scr1 x0 x1) (rtab q)) (T 0) (T 1) (T 2) (T 3)
    (fun r k => View.ld x3 (rcode r k)) (fun r k => View.ld x5 (rcode r k)) (fun j => View.ld x4 (rscale j)) (fun j => View.ld x6 (rscale j))
    (fun i d => x2 (ix2 i d)) (fun i d => operand_apply _ (fun i d => x2 (ix2 i d)) (fun j i n => tile_ld x2 j i n) i d)
    (fun n k => x3 (ix2 k n)) (fun n k => x5 (ix2 k n)) (fun r k a n => code_ld x3 r k a n) (fun r k a n => code_ld x5 r k a n)
    (fun n => x4 (ix2 0 n)) (fun n => x6 (ix2 0 n)) (fun j n => scale_ld x4 j n) (fun j n => scale_ld x6 j n) i n

variable (m : (ℓ : Loc nD τ sig) → Buf (Elt Ideal) ℓ)

/-- Point `t`'s block, from the argument arrays. -/
theorem point_apply (c : Dev nD) (kg ku : Fin 250) (hg : m ((c : Thread nD τ).loc main_arg3) (ix1 (0 : Fin 1)) = Codec.biasOf kg)
    (hu : m ((c : Thread nD τ).loc main_arg6) (ix1 (0 : Fin 1)) = Codec.biasOf ku) (t : Fin cfg0.N) (i : Fin 256) (n : Fin 1024) :
    (outsAt0 m c t.val t.isLt).1 (ix2 i n)
      = outVal (m ((c : Thread nD τ).loc main_arg0)) (m ((c : Thread nD τ).loc main_arg1)) (m ((c : Thread nD τ).loc main_arg2)) kg
          (m ((c : Thread nD τ).loc main_arg4)) (m ((c : Thread nD τ).loc main_arg5)) ku i (colOf t n) := by
  rw [block_eq]
  refine (blockOf_apply kg ku _ _ ((bias_apply m c _ _ (ix1 (0 : Fin 1))).trans hg) ((bias_apply' m c _ _ (ix1 (0 : Fin 1))).trans hu) _ _ _ _ _ i n).trans ?_
  unfold outVal
  refine congrArg₂ gluOf (congrArg₂ (· * ·) (congrArg₂ (fun X C => dotOf X C _) ?_ ?_) ?_) (congrArg₂ (· * ·) (congrArg₂ (fun X C => dotOf X C _) ?_ ?_) ?_)
  · exact funext fun d => x_apply m c _ i d
  · exact funext fun k => codes_apply m c t k n
  · exact scale_apply m c t n
  · exact funext fun d => x_apply m c _ i d
  · exact funext fun k => codes_apply' m c t k n
  · exact scale_apply' m c t n

/-- The array after the run, from the argument arrays. -/
theorem result_apply (c : Dev nD) (kg ku : Fin 250) (hg : m ((c : Thread nD τ).loc main_arg3) (ix1 (0 : Fin 1)) = Codec.biasOf kg)
    (hu : m ((c : Thread nD τ).loc main_arg6) (ix1 (0 : Fin 1)) = Codec.biasOf ku) (i : Fin 256) (y : Fin 24576) :
    Cert.KernelIdeal.Value.G7 m c (ix2 i y)
      = outVal (m ((c : Thread nD τ).loc main_arg0)) (m ((c : Thread nD τ).loc main_arg1)) (m ((c : Thread nD τ).loc main_arg2)) kg
          (m ((c : Thread nD τ).loc main_arg4)) (m ((c : Thread nD τ).loc main_arg5)) ku i y := by
  have hi := i.isLt
  have hy := y.isLt
  have hp : Cert.KernelIdeal.Value.pt7Of (ix2 i y) = y.val / 1024 := by
    show 24 * (i.val / 256 - 0) + 1 * (y.val / 1024 - 0) = _
    omega
  have hlt : Cert.KernelIdeal.Value.pt7Of (ix2 i y) < cfg0.N := by rw [hp]; exact lt_of_lt_of_eq (by omega) N_0.symm
  have hl : Cert.KernelIdeal.Value.loc7Of (ix2 i y) = ix2 i (⟨y.val % 1024, by omega⟩ : Fin 1024) := by
    funext a
    match a with
    | ⟨0, _⟩ => exact Fin.ext (by show i.val % 256 = i.val; omega)
    | ⟨1, _⟩ => rfl
  unfold Cert.KernelIdeal.Value.G7
  rw [dif_pos hlt, ← Cert.KernelIdeal.Value.outsAt0_sweep m c _ hlt, hl]
  refine (point_apply m c kg ku hg hu ⟨_, hlt⟩ i _).trans (congrArg _ (Fin.ext ?_))
  show 1024 * Cert.KernelIdeal.Value.pt7Of (ix2 i y) + y.val % 1024 = y.val
  rw [hp]
  omega

end Cert.KernelIdeal.Hand

end
-- ==== Proof.RefWeight.lean ====
/- The reference's weights: what the two nibbles of a code decode to. -/
module

public import proofs.«01_k».proof.Proof.Codec
public import proofs.«01_k».proof.Proof.Tile
public import proofs.«01_k».proof.Proof.Gen.ReferenceIdeal.Read

@[expose] public section

set_option maxRecDepth 16384

noncomputable section

namespace Cert.ReferenceIdeal.Hand

open Idealize.ShloMosaic Idealize.ShloMosaic.ValueIdx Cert.ReferenceIdeal Cert.ReferenceIdeal.Read Cert.KernelIdeal.Hand

/-- The signed factor of the two-valued form: `1 - 2 * (n >> 3)`. -/
def signW (n : BitVec 32) : BitVec 32 := IntOp.subi 1#32 (IntOp.muli 2#32 (IntOp.shrsi .host n 3#32))

/-- The magnitude `2 + (n & 1)`. -/
def manW (n : BitVec 32) : BitVec 32 := IntOp.addi 2#32 (IntOp.andi (IntOp.andi n 7#32) 1#32)

/-- The exponent `((n & 7) >> 1) + bias - 1`. -/
def expW (n b : BitVec 32) : BitVec 32 := IntOp.subi (IntOp.addi (IntOp.shrsi .host (IntOp.andi n 7#32) 1#32) b) 1#32

/-- The two's complement integer. -/
def intW (n : BitVec 32) : BitVec 32 := IntOp.subi n (IntOp.muli 16#32 ((IntOp.cmpi .sge n 8#32).setWidth 32))

/-- The weight a nibble decodes to beside the other nibble of its code. -/
def weight (n o b : BitVec 32) : EReal :=
  Scalar.select (IntOp.cmpi .eq n 8#32) (Ideal.ofBits .f32 0x00000000#32)
    (Scalar.select (IntOp.cmpi .eq o 8#32)
      ((((signW n).toInt : ℝ) : EReal) * (((manW n).toInt : ℝ) : EReal) * Ideal.pow (Ideal.ofBits .f32 0x40000000#32) (((expW n b).toInt : ℝ) : EReal))
      (((intW n).toInt : ℝ) : EReal))

theorem signW_nib : ∀ n : Fin 16, (signW (BitVec.ofNat 32 n.val)).toInt = 1 - 2 * (n.val / 8 : ℕ) := by decide +kernel

theorem manW_nib : ∀ n : Fin 16, (manW (BitVec.ofNat 32 n.val)).toInt = (2 + n.val % 2 : ℕ) := by decide +kernel

theorem intW_nib : ∀ n : Fin 16, (intW (BitVec.ofNat 32 n.val)).toInt = (n.val : ℤ) - 16 * (n.val / 8 : ℕ) := by decide +kernel

theorem expW_nib : ∀ (n : Fin 16) (k : Fin 250),
    (expW (BitVec.ofNat 32 n.val) (Codec.biasOf k)).toInt = (n.val % 8 / 2 : ℕ) + ((k.val : ℤ) - 125) - 1 := by decide +kernel

theorem isEight : ∀ n : Fin 16, IntOp.cmpi .eq (BitVec.ofNat 32 n.val) 8#32 = if n = 8 then 1#1 else 0#1 := by decide +kernel

theorem ofBits_two : Ideal.ofBits .f32 0x40000000#32 = ((2 : ℝ) : EReal) := by
  have h0 : ∀ w : BitVec 32, Ideal.ofBits .f32 w = Ideal.ieee 8 23 w := fun _ => rfl
  rw [h0]
  simp [Ideal.ieee] <;> norm_num <;> rw [← EReal.coe_mul] <;> norm_num

theorem weight_nib (n o : Fin 16) (k : Fin 250) :
    weight (BitVec.ofNat 32 n.val) (BitVec.ofNat 32 o.val) (Codec.biasOf k) = ((Codec.value n o ((k.val : ℤ) - 125) : ℝ) : EReal) := by
  unfold weight Codec.value
  rw [isEight, isEight, signW_nib, manW_nib, intW_nib, expW_nib, ofBits_two, Ideal.pow_coe_coe]
  by_cases hn : n = 8
  · rw [if_pos hn, if_pos hn]
    exact Ideal.ofBits_zero_f32
  · rw [if_neg hn, if_neg hn]
    by_cases ho : o = 8
    · rw [if_pos ho, if_pos ho]
      show _ * _ * ((Real.rpow 2 _ : ℝ) : EReal) = _
      rw [← EReal.coe_mul, ← EReal.coe_mul]
      congr 1
      rw [show ∀ z : ℤ, Real.rpow 2 (z : ℝ) = (2 : ℝ) ^ z from fun z => Real.rpow_intCast 2 z]
      push_cast
      rfl
    · rw [if_neg ho, if_neg ho]
      rfl

theorem lo_word : ∀ c : BitVec 8, IntOp.andi (c.setWidth 32) 15#32 = BitVec.ofNat 32 (nibLo c).val := by
  have h : ∀ n : Fin 256, IntOp.andi ((BitVec.ofNat 8 n.val).setWidth 32) 15#32 = BitVec.ofNat 32 (nibLo (BitVec.ofNat 8 n.val)).val := by
    decide +kernel
  intro c
  have := h ⟨c.toNat, c.isLt⟩
  simpa using this

theorem hi_word : ∀ c : BitVec 8, IntOp.shrsi .host (c.setWidth 32) 4#32 = BitVec.ofNat 32 (nibHi c).val := by
  have h : ∀ n : Fin 256, IntOp.shrsi .host ((BitVec.ofNat 8 n.val).setWidth 32) 4#32 = BitVec.ofNat 32 (nibHi (BitVec.ofNat 8 n.val)).val := by
    decide +kernel
  intro c
  have := h ⟨c.toNat, c.isLt⟩
  simpa using this

theorem bias_word (x : IVec S1 32) (j : S_.Idx) : val_main_v2 (F := Ideal) x j = x (ix1 (0 : Fin 1)) := by
  refine congrArg x (funext fun a : Fin 1 => ?_)
  obtain rfl : a = 0 := Subsingleton.elim _ _
  exact Subsingleton.elim (α := Fin 1) _ _

theorem even_weight (x1 : IVec S512x24576 8) (x3 : IVec S1 32) (k : Fin 250) (hk : x3 (ix1 (0 : Fin 1)) = Codec.biasOf k) (i : S512x24576.Idx) :
    val_main_v86 (F := Ideal) x1 x3 i = ((Codec.value (nibLo (x1 i)) (nibHi (x1 i)) ((k.val : ℤ) - 125) : ℝ) : EReal) := by
  refine Eq.trans ?_ (weight_nib (nibLo (x1 i)) (nibHi (x1 i)) k)
  rw [← lo_word, ← hi_word, ← hk]
  simp only [bias_word,
    val_main_v3_apply, val_main_c_apply, val_main_v4_apply, val_main_v5_apply, val_main_c_0_apply, val_main_v6_apply,
    val_main_v7_apply, val_main_c_1_apply, val_main_v8_apply, val_main_v9_apply, val_main_c_2_apply, val_main_v10_apply,
    val_main_v11_apply, val_main_c_3_apply, val_main_v12_apply, val_main_v13_apply, val_main_c_4_apply, val_main_v14_apply,
    val_main_v15_apply, val_main_c_5_apply, val_main_v16_apply, val_main_v17_apply, val_main_c_6_apply, val_main_v18_apply,
    val_main_v19_apply, val_main_c_7_apply, val_main_v20_apply, val_main_v21_apply, val_main_c_8_apply, val_main_v22_apply,
    val_main_v23_apply, val_main_v24_apply, val_main_c_9_apply, val_main_v25_apply, val_main_v26_apply, val_main_v27_apply,
    val_main_v28_apply, val_main_cst_apply, val_main_v29_apply, val_main_v30_apply, val_main_v31_apply, val_main_c_10_apply,
    val_main_v32_apply, val_main_v33_apply, val_main_v34_apply, val_main_v35_apply, val_main_v36_apply, val_main_c_11_apply,
    val_main_v37_apply, val_main_v38_apply, val_main_v39_apply, val_main_c_12_apply, val_main_v40_apply, val_main_v41_apply,
    val_main_v42_apply, val_main_v43_apply, val_main_v44_apply, val_main_v45_apply, val_main_cst_13_apply,
    val_main_call1_v0_apply, val_main_call1_v1_apply, val_main_v46_apply, val_main_c_14_apply, val_main_v47_apply,
    val_main_v48_apply, val_main_c_15_apply, val_main_v49_apply, val_main_v50_apply, val_main_c_16_apply, val_main_v51_apply,
    val_main_v52_apply, val_main_c_17_apply, val_main_v53_apply, val_main_v54_apply, val_main_c_18_apply, val_main_v55_apply,
    val_main_v56_apply, val_main_c_19_apply, val_main_v57_apply, val_main_v58_apply, val_main_c_20_apply, val_main_v59_apply,
    val_main_v60_apply, val_main_c_21_apply, val_main_v61_apply, val_main_v62_apply, val_main_v63_apply, val_main_c_22_apply,
    val_main_v64_apply, val_main_v65_apply, val_main_v66_apply, val_main_v67_apply, val_main_cst_23_apply, val_main_v68_apply,
    val_main_v69_apply, val_main_v70_apply, val_main_c_24_apply, val_main_v71_apply, val_main_v72_apply, val_main_v73_apply,
    val_main_v74_apply, val_main_v75_apply, val_main_c_25_apply, val_main_v76_apply, val_main_v77_apply, val_main_v78_apply,
    val_main_c_26_apply, val_main_v79_apply, val_main_v80_apply, val_main_v81_apply, val_main_v82_apply, val_main_v83_apply,
    val_main_v84_apply, val_main_cst_27_apply, val_main_call3_v0_apply, val_main_call3_v1_apply, val_main_v85_apply,
    val_main_v86_apply, val_main_v87_apply]
  rfl

theorem odd_weight (x1 : IVec S512x24576 8) (x3 : IVec S1 32) (k : Fin 250) (hk : x3 (ix1 (0 : Fin 1)) = Codec.biasOf k) (i : S512x24576.Idx) :
    val_main_v87 (F := Ideal) x1 x3 i = ((Codec.value (nibHi (x1 i)) (nibLo (x1 i)) ((k.val : ℤ) - 125) : ℝ) : EReal) := by
  refine Eq.trans ?_ (weight_nib (nibHi (x1 i)) (nibLo (x1 i)) k)
  rw [← lo_word, ← hi_word, ← hk]
  simp only [bias_word,
    val_main_v3_apply, val_main_c_apply, val_main_v4_apply, val_main_v5_apply, val_main_c_0_apply, val_main_v6_apply,
    val_main_v7_apply, val_main_c_1_apply, val_main_v8_apply, val_main_v9_apply, val_main_c_2_apply, val_main_v10_apply,
    val_main_v11_apply, val_main_c_3_apply, val_main_v12_apply, val_main_v13_apply, val_main_c_4_apply, val_main_v14_apply,
    val_main_v15_apply, val_main_c_5_apply, val_main_v16_apply, val_main_v17_apply, val_main_c_6_apply, val_main_v18_apply,
    val_main_v19_apply, val_main_c_7_apply, val_main_v20_apply, val_main_v21_apply, val_main_c_8_apply, val_main_v22_apply,
    val_main_v23_apply, val_main_v24_apply, val_main_c_9_apply, val_main_v25_apply, val_main_v26_apply, val_main_v27_apply,
    val_main_v28_apply, val_main_cst_apply, val_main_v29_apply, val_main_v30_apply, val_main_v31_apply, val_main_c_10_apply,
    val_main_v32_apply, val_main_v33_apply, val_main_v34_apply, val_main_v35_apply, val_main_v36_apply, val_main_c_11_apply,
    val_main_v37_apply, val_main_v38_apply, val_main_v39_apply, val_main_c_12_apply, val_main_v40_apply, val_main_v41_apply,
    val_main_v42_apply, val_main_v43_apply, val_main_v44_apply, val_main_v45_apply, val_main_cst_13_apply,
    val_main_call1_v0_apply, val_main_call1_v1_apply, val_main_v46_apply, val_main_c_14_apply, val_main_v47_apply,
    val_main_v48_apply, val_main_c_15_apply, val_main_v49_apply, val_main_v50_apply, val_main_c_16_apply, val_main_v51_apply,
    val_main_v52_apply, val_main_c_17_apply, val_main_v53_apply, val_main_v54_apply, val_main_c_18_apply, val_main_v55_apply,
    val_main_v56_apply, val_main_c_19_apply, val_main_v57_apply, val_main_v58_apply, val_main_c_20_apply, val_main_v59_apply,
    val_main_v60_apply, val_main_c_21_apply, val_main_v61_apply, val_main_v62_apply, val_main_v63_apply, val_main_c_22_apply,
    val_main_v64_apply, val_main_v65_apply, val_main_v66_apply, val_main_v67_apply, val_main_cst_23_apply, val_main_v68_apply,
    val_main_v69_apply, val_main_v70_apply, val_main_c_24_apply, val_main_v71_apply, val_main_v72_apply, val_main_v73_apply,
    val_main_v74_apply, val_main_v75_apply, val_main_c_25_apply, val_main_v76_apply, val_main_v77_apply, val_main_v78_apply,
    val_main_c_26_apply, val_main_v79_apply, val_main_v80_apply, val_main_v81_apply, val_main_v82_apply, val_main_v83_apply,
    val_main_v84_apply, val_main_cst_27_apply, val_main_call3_v0_apply, val_main_call3_v1_apply, val_main_v85_apply,
    val_main_v86_apply, val_main_v87_apply]
  rfl

theorem even_same (x4 : IVec S512x24576 8) (x6 : IVec S1 32) : val_main_v178 (F := Ideal) x4 x6 = val_main_v86 (F := Ideal) x4 x6 := rfl

theorem odd_same (x4 : IVec S512x24576 8) (x6 : IVec S1 32) : val_main_v179 (F := Ideal) x4 x6 = val_main_v87 (F := Ideal) x4 x6 := rfl

end Cert.ReferenceIdeal.Hand

end
-- ==== Proof.RefValue.lean ====
/- The reference's result, at an index. -/
module

public import proofs.«01_k».proof.Proof.RefWeight
public import proofs.«01_k».proof.Proof.Outcome

@[expose] public section

set_option maxRecDepth 16384

noncomputable section

namespace Cert.ReferenceIdeal.Hand

open Idealize.ShloMosaic Idealize.ShloMosaic.ValueIdx Cert.ReferenceIdeal Cert.ReferenceIdeal.Read Cert.KernelIdeal.Hand

theorem even_operand (x0 : FVec Ideal S2x128x1024 .bf16) (a : Fin 2) (b : Fin 128) (k : Fin 512) :
    val_main_v0 (F := Ideal) x0 (ix3 a b k) = x0 (ix3 a b (⟨2 * k.val, by omega⟩ : Fin 1024)) := by
  refine congrArg x0 (funext fun z : Fin 3 => ?_)
  match z with
  | ⟨0, _⟩ => exact Fin.ext (by show 0 + 1 * a.val = a.val; omega)
  | ⟨1, _⟩ => exact Fin.ext (by show 0 + 1 * b.val = b.val; omega)
  | ⟨2, _⟩ => exact Fin.ext (by show 0 + 2 * k.val = 2 * k.val; omega)

theorem odd_operand (x0 : FVec Ideal S2x128x1024 .bf16) (a : Fin 2) (b : Fin 128) (k : Fin 512) :
    val_main_v1 (F := Ideal) x0 (ix3 a b k) = x0 (ix3 a b (⟨2 * k.val + 1, by omega⟩ : Fin 1024)) := by
  refine congrArg x0 (funext fun z : Fin 3 => ?_)
  match z with
  | ⟨0, _⟩ => exact Fin.ext (by show 0 + 1 * a.val = a.val; omega)
  | ⟨1, _⟩ => exact Fin.ext (by show 0 + 1 * b.val = b.val; omega)
  | ⟨2, _⟩ => exact Fin.ext (by show 1 + 2 * k.val = 2 * k.val + 1; omega)

/-- One projection of the reference, scaled. -/
theorem projection_apply (x0 : FVec Ideal S2x128x1024 .bf16) (x1 : IVec S512x24576 8) (x2 : FVec Ideal S24576 .f32) (x3 : IVec S1 32)
    (k : Fin 250) (hk : x3 (ix1 (0 : Fin 1)) = Codec.biasOf k) (a : Fin 2) (b : Fin 128) (y : Fin 24576) :
    val_main_v93 (F := Ideal) x0 x1 x2 x3 (ix3 a b y)
      = dotOf (fun d => x0 (ix3 a b d)) (fun r => x1 (ix2 r y)) ((k.val : ℤ) - 125) * x2 (ix1 y) := by
  have e0 : ∀ r, lidx_main_v88 (ix3 a b y) r = ix3 a b r := fun r => funext fun z : Fin 3 => by
    match z with
    | ⟨0, _⟩ => rfl
    | ⟨1, _⟩ => rfl
    | ⟨2, _⟩ => rfl
  have e1 : ∀ r, ridx_main_v88 (ix3 a b y) r = ix2 r y := fun r => funext fun z : Fin 2 => by
    match z with
    | ⟨0, _⟩ => rfl
    | ⟨1, _⟩ => rfl
  have e2 : ∀ r, lidx_main_v89 (ix3 a b y) r = ix3 a b r := e0
  have e3 : ∀ r, ridx_main_v89 (ix3 a b y) r = ix2 r y := e1
  have e4 : idx_main_v91 (idx_main_v92 (ix3 a b y)) = ix1 y := funext fun z : Fin 1 => by
    match z with
    | ⟨0, _⟩ => rfl
  rw [val_main_v93_apply, val_main_v90_apply, val_main_v88_apply, val_main_v89_apply, val_main_v92_apply, val_main_v91_apply, e4]
  show ((∑ r : Fin 512, _) + ∑ r : Fin 512, _ : EReal) * _ = _
  congr 1
  unfold dotOf
  refine congrArg₂ (· + ·) (Finset.sum_congr rfl fun r _ => ?_) (Finset.sum_congr rfl fun r _ => ?_)
  · rw [e0, e1, even_operand, even_weight x1 x3 k hk]
    rfl
  · rw [e2, e3, odd_operand, odd_weight x1 x3 k hk]
    rfl

theorem projection_same (x0 : FVec Ideal S2x128x1024 .bf16) (x4 : IVec S512x24576 8) (x5 : FVec Ideal S24576 .f32) (x6 : IVec S1 32) :
    val_main_v185 (F := Ideal) x0 x4 x5 x6 = val_main_v93 (F := Ideal) x0 x4 x5 x6 := rfl

/-- The reference's result. -/
theorem reference_apply (x0 : FVec Ideal S2x128x1024 .bf16) (x1 : IVec S512x24576 8) (x2 : FVec Ideal S24576 .f32) (x3 : IVec S1 32)
    (x4 : IVec S512x24576 8) (x5 : FVec Ideal S24576 .f32) (x6 : IVec S1 32) (kg ku : Fin 250) (hg : x3 (ix1 (0 : Fin 1)) = Codec.biasOf kg)
    (hu : x6 (ix1 (0 : Fin 1)) = Codec.biasOf ku) (i : Fin 256) (y : Fin 24576) :
    val_main_v189 (F := Ideal) x0 x1 x2 x3 x4 x5 x6 (ix2 i y) = outVal x0 x1 x2 kg x4 x5 ku i y := by
  have hi := i.isLt
  have hy := y.isLt
  have ei : idx_main_v189 (ix2 i y) = ix3 (⟨i.val / 128, by omega⟩ : Fin 2) (⟨i.val % 128, by omega⟩ : Fin 128) y :=
    funext fun z : Fin 3 => by
      match z with
      | ⟨0, _⟩ => exact Fin.ext (by show (i.val * 24576 + y.val) / 3145728 = i.val / 128; omega)
      | ⟨1, _⟩ => exact Fin.ext (by show (i.val * 24576 + y.val) / 24576 % 128 = i.val % 128; omega)
      | ⟨2, _⟩ => exact Fin.ext (by show (i.val * 24576 + y.val) % 24576 = y.val; omega)
  rw [val_main_v189_apply, ei, val_main_v188_apply, val_main_v187_apply, projection_same, val_main_v186_apply, val_main_call8_v5_apply,
    val_main_call8_v4_apply, val_main_call8_cst_0_apply, val_main_call8_v3_apply, val_main_call8_v2_apply, val_main_call8_cst_apply,
    val_main_call8_v1_apply, val_main_call8_v0_apply, projection_apply x0 x1 x2 x3 kg hg, projection_apply x0 x4 x5 x6 ku hu]
  unfold outVal gluOf Ideal.logistic
  show _ * Ideal.div (Ideal.ofBits .f32 0x3F800000#32) (Ideal.ofBits .f32 0x3F800000#32 + _) * _ = _
  rw [Ideal.ofBits_one_f32]
  rfl

end Cert.ReferenceIdeal.Hand

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Pre
public import proofs.«01_k».proof.Proof.Final
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs and leaves its arguments and every semaphore as they were. -/
theorem reference_frame : Cert.quiescent_ReferenceIdeal (hReferenceIdeal := Cert.ReferenceIdeal.Gen.facts) :=
  fun m' g' _ => (θ_run Cert.ReferenceIdeal.defs _ _).mono
    (fun r h => ⟨fun c => (h c).2, Idealize.ShloMosaic.sem_eq_zero_of_no_sems (by decide) r.2⟩)
    (Cert.ReferenceIdeal.Value.run (F := Ideal) m' g')

/-- At biases in range and equal arguments, the reference's result is the kernel's. -/
theorem same_result
    (m : (ℓ : Loc Cert.KernelIdeal.nD Cert.KernelIdeal.τ Cert.KernelIdeal.sig) → Buf (Elt Ideal) ℓ) (c : Dev Cert.KernelIdeal.nD)
    (x0 : FVec Ideal Cert.ReferenceIdeal.S2x128x1024 .bf16) (x1 : IVec Cert.ReferenceIdeal.S512x24576 8)
    (x2 : FVec Ideal Cert.ReferenceIdeal.S24576 .f32) (x3 : IVec Cert.ReferenceIdeal.S1 32)
    (x4 : IVec Cert.ReferenceIdeal.S512x24576 8) (x5 : FVec Ideal Cert.ReferenceIdeal.S24576 .f32) (x6 : IVec Cert.ReferenceIdeal.S1 32)
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (kg ku : Fin 250)
    (hg : m ((c.tc : Thread Cert.KernelIdeal.nD Cert.KernelIdeal.τ).loc Cert.KernelIdeal.main_arg3) (ValueIdx.ix1 (0 : Fin 1)) = Cert.Codec.biasOf kg)
    (hu : m ((c.tc : Thread Cert.KernelIdeal.nD Cert.KernelIdeal.τ).loc Cert.KernelIdeal.main_arg6) (ValueIdx.ix1 (0 : Fin 1)) = Cert.Codec.biasOf ku) :
    Cert.ReferenceIdeal.Read.val_main_v189 (F := Ideal) x0 x1 x2 x3 x4 x5 x6 = Cert.KernelIdeal.Value.G7 m c := by
  subst h0 h1 h2 h3 h4 h5 h6
  funext j
  obtain ⟨i, y, rfl⟩ : ∃ (i : Fin 256) (y : Fin 24576), j = ValueIdx.ix2 i y := ⟨j 0, j 1, ValueIdx.eq_ix2 j⟩
  exact (Cert.ReferenceIdeal.Hand.reference_apply _ _ _ _ _ _ _ kg ku hg hu i y).trans
    (Cert.KernelIdeal.Hand.result_apply m c kg ku hg hu i y).symm

theorem claim : Cert.Claim := ⟨Cert.Kernel.Gen.facts, Cert.KernelIdeal.Gen.facts, Cert.ReferenceIdeal.Gen.facts,
  Cert.Pre_exponents_normal.Hand.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  fun m g m' g' pre agree => ⟨fun c => Cert.KernelIdeal.Value.G7 m c, Cert.KernelIdeal.Value.run m g,
    (θ_run Cert.ReferenceIdeal.defs _ _).mono
      (fun r h c => by
        obtain ⟨⟨kg, hg⟩, ku, hu⟩ := Cert.Pre_exponents_normal.Hand.biases _ _ _ _ _ _ _ (pre c)
        obtain ⟨a0, a1, a2, a3, a4, a5, a6⟩ := agree c
        exact ⟨(h c).1.trans ((Cert.ReferenceIdeal.Read.val_main_v189_eq (F := Ideal) (StableHlo.launchContents m' c)).trans
          (same_result m c _ _ _ _ _ _ _ a0 a1 a2 a3 a4 a5 a6 kg ku hg hu)), (h c).2⟩)
      (Cert.ReferenceIdeal.Value.run (F := Ideal) m' g')⟩⟩

end Cert.Proof

end
